-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_meets [hPre_meets : Cert.Pre_meets.Facts] (m : (ℓ : Loc Cert.KernelIdeal.nD Cert.KernelIdeal.τ Cert.KernelIdeal.sig) → Buf (Elt Ideal) ℓ) : Prop :=
  ∀ c : Dev Cert.KernelIdeal.nD,
    (Cert.Pre_meets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_meets [hPre_meets : Cert.Pre_meets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_meets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_meets [hKernelIdeal : Cert.KernelIdeal.Facts] [hPre_meets : Cert.Pre_meets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_meets m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_meets [hReferenceIdeal : Cert.ReferenceIdeal.Facts] [hPre_meets : Cert.Pre_meets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_meets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_meets [hKernelIdeal : Cert.KernelIdeal.Facts] [hReferenceIdeal : Cert.ReferenceIdeal.Facts] [hPre_meets : Cert.Pre_meets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_meets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_meets : Cert.Pre_meets.Facts),
    quiescent_Kernel (hKernel := hKernel)
    ∧ quiescent_KernelIdeal (hKernelIdeal := hKernelIdeal)
    ∧ quiescent_KernelIdeal_pre_meets (hKernelIdeal := hKernelIdeal) (hPre_meets := hPre_meets)
    ∧ quiescent_ReferenceIdeal (hReferenceIdeal := hReferenceIdeal)
    ∧ quiescent_ReferenceIdeal_pre_meets (hReferenceIdeal := hReferenceIdeal) (hPre_meets := hPre_meets)
    ∧ preserves_Kernel_KernelIdeal
    ∧ algebraic_KernelIdeal_ReferenceIdeal_pre_meets (hKernelIdeal := hKernelIdeal) (hReferenceIdeal := hReferenceIdeal) (hPre_meets := hPre_meets)
-- ==== Pre_meets.lean ====
abbrev S4096x32 : Shape := ⟨2, ![4096, 32]⟩
abbrev S4096x16 : Shape := ⟨2, ![4096, 16]⟩
abbrev S16x32x16 : Shape := ⟨3, ![16, 32, 16]⟩
abbrev S16x16x32 : Shape := ⟨3, ![16, 16, 32]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096x16 : S_.BroadcastsInDim S4096x16 (![] : Fin 0 → Fin S4096x16.rank)
  reducesTo_S4096x16_S_d0_1 : S4096x16.ReducesTo [0, 1] S_
  bcast_S_S16x32x16 : S_.BroadcastsInDim S16x32x16 (![] : Fin 0 → Fin S16x32x16.rank)
  reducesTo_S16x32x16_S_d0_1_2 : S16x32x16.ReducesTo [0, 1, 2] S_
  bcast_S_S16x16x32 : S_.BroadcastsInDim S16x16x32 (![] : Fin 0 → Fin S16x16x32.rank)
  reducesTo_S16x16x32_S_d0_1_2 : S16x16x32.ReducesTo [0, 1, 2] S_

variable [Facts]

def fn_part1 {F : FTy → Type} [FloatOps F] (main_arg5 : FVec F S16x16x32 .f32) (main_v15 : IVec S_ 1) (main_v16 : FVec F S16x32x16 .f32) : IVec S_ 1 :=
  let main_cst_5 : FVec F S_ .f32 := constant S_ .f32 0x7F800000#32
  let main_v17 : FVec F S16x32x16 .f32 := broadcastInDim S16x32x16 ![] bcast_S_S16x32x16 main_cst_5
  let main_v18 : IVec S16x32x16 1 := cmpf .olt main_v16 main_v17
  let main_c_6 : IVec S_ 1 := constantI S_ 1 1#1
  let main_v19 : IVec S_ 1 := (fun x v => Host.reduce IntOp.andi x v reducesTo_S16x32x16_S_d0_1_2 h_S_) main_v18 main_c_6
  let main_v20 : IVec S_ 1 := andi main_v15 main_v19
  let main_v21 : FVec F S16x16x32 .f32 := Host.absf main_arg5
  let main_cst_7 : FVec F S_ .f32 := constant S_ .f32 0x7F800000#32
  let main_v22 : FVec F S16x16x32 .f32 := broadcastInDim S16x16x32 ![] bcast_S_S16x16x32 main_cst_7
  let main_v23 : IVec S16x16x32 1 := cmpf .olt main_v21 main_v22
  let main_c_8 : IVec S_ 1 := constantI S_ 1 1#1
  let main_v24 : IVec S_ 1 := (fun x v => Host.reduce IntOp.andi x v reducesTo_S16x16x32_S_d0_1_2 h_S_) main_v23 main_c_8
  let main_v25 : IVec S_ 1 := andi main_v20 main_v24
  main_v25

def fn {F : FTy → Type} [FloatOps F] (main_arg0 : FVec F S4096x32 .f32) (main_arg1 : FVec F S4096x16 .f32) (main_arg2 : FVec F S4096x16 .f32) (main_arg3 : FVec F S4096x32 .f32) (main_arg4 : FVec F S16x32x16 .f32) (main_arg5 : FVec F S16x16x32 .f32) (main_arg6 : IVec S4096x4096 32) : IVec S_ 1 :=
  let main_c : IVec S_ 32 := constantI S_ 32 0#32
  let main_v0 : IVec S4096x4096 32 := broadcastInDim S4096x4096 ![] bcast_S_S4096x4096 main_c
  let main_v1 : IVec S4096x4096 1 := cmpi .sge main_arg6 main_v0
  let main_c_0 : IVec S_ 32 := constantI S_ 32 16#32
  let main_v2 : IVec S4096x4096 32 := broadcastInDim S4096x4096 ![] bcast_S_S4096x4096 main_c_0
  let main_v3 : IVec S4096x4096 1 := cmpi .slt main_arg6 main_v2
  let main_v4 : IVec S4096x4096 1 := andi main_v1 main_v3
  let main_c_1 : IVec S_ 1 := constantI S_ 1 1#1
  let main_v5 : IVec S_ 1 := (fun x v => Host.reduce IntOp.andi x v reducesTo_S4096x4096_S_d0_1 h_S_) main_v4 main_c_1
  let main_v6 : FVec F S4096x32 .f32 := Host.absf main_arg0
  let main_cst : FVec F S_ .f32 := constant S_ .f32 0x7F800000#32
  let main_v7 : FVec F S4096x32 .f32 := broadcastInDim S4096x32 ![] bcast_S_S4096x32 main_cst
  let main_v8 : IVec S4096x32 1 := cmpf .olt main_v6 main_v7
  let main_c_2 : IVec S_ 1 := constantI S_ 1 1#1
  let main_v9 : IVec S_ 1 := (fun x v => Host.reduce IntOp.andi x v reducesTo_S4096x32_S_d0_1 h_S_) main_v8 main_c_2
  let main_v10 : IVec S_ 1 := andi main_v5 main_v9
  let main_v11 : FVec F S4096x16 .f32 := Host.absf main_arg1
  let main_cst_3 : FVec F S_ .f32 := constant S_ .f32 0x7F800000#32
  let main_v12 : FVec F S4096x16 .f32 := broadcastInDim S4096x16 ![] bcast_S_S4096x16 main_cst_3
  let main_v13 : IVec S4096x16 1 := cmpf .olt main_v11 main_v12
  let main_c_4 : IVec S_ 1 := constantI S_ 1 1#1
  let main_v14 : IVec S_ 1 := (fun x v => Host.reduce IntOp.andi x v reducesTo_S4096x16_S_d0_1 h_S_) main_v13 main_c_4
  let main_v15 : IVec S_ 1 := andi main_v10 main_v14
  let main_v16 : FVec F S16x32x16 .f32 := Host.absf main_arg4
  fn_part1 (F := F) main_arg5 main_v15 main_v16
-- ==== Kernel.lean ====
abbrev S4096x32 : Shape := ⟨2, ![4096, 32]⟩
abbrev S4096x16 : Shape := ⟨2, ![4096, 16]⟩
abbrev S16x32x16 : Shape := ⟨3, ![16, 32, 16]⟩
abbrev S16x16x32 : Shape := ⟨3, ![16, 16, 32]⟩
abbrev S4096x4096 : Shape := ⟨2, ![4096, 4096]⟩
abbrev S32x16x16 : Shape := ⟨3, ![32, 16, 16]⟩
abbrev S32x256 : Shape := ⟨2, ![32, 256]⟩
abbrev S16x512 : Shape := ⟨2, ![16, 512]⟩
abbrev S8192x48 : Shape := ⟨2, ![8192, 48]⟩
abbrev S512x4096 : Shape := ⟨2, ![512, 4096]⟩
abbrev S4096x512 : Shape := ⟨2, ![4096, 512]⟩
abbrev S32x4096 : Shape := ⟨2, ![32, 4096]⟩
abbrev S16x4096 : Shape := ⟨2, ![16, 4096]⟩
abbrev S16 : Shape := ⟨1, ![16]⟩
abbrev S16x1 : Shape := ⟨2, ![16, 1]⟩
abbrev S256x512 : Shape := ⟨2, ![256, 512]⟩
abbrev S32x512 : Shape := ⟨2, ![32, 512]⟩
abbrev S32 : Shape := ⟨1, ![32]⟩
abbrev S32x1 : Shape := ⟨2, ![32, 1]⟩
abbrev S512x512 : Shape := ⟨2, ![512, 512]⟩
abbrev S512 : Shape := ⟨1, ![512]⟩
abbrev S1x512 : Shape := ⟨2, ![1, 512]⟩

abbrev nBuf : Space → Nat
  | .hbm => 12
  | .vmem => 13
  | .smem => 0
  | _ => 0

abbrev bufTy : (tb : Table) → Fin (tcTables nBuf tb) → BufTy
  | .hbm, ⟨0, _⟩ => ⟨S4096x32, .f32⟩
  | .hbm, ⟨1, _⟩ => ⟨S4096x16, .f32⟩
  | .hbm, ⟨2, _⟩ => ⟨S4096x16, .f32⟩
  | .hbm, ⟨3, _⟩ => ⟨S4096x32, .f32⟩
  | .hbm, ⟨4, _⟩ => ⟨S16x32x16, .f32⟩
  | .hbm, ⟨5, _⟩ => ⟨S16x16x32, .f32⟩
  | .hbm, ⟨6, _⟩ => ⟨S4096x4096, .i32⟩
  | .hbm, ⟨7, _⟩ => ⟨S32x16x16, .f32⟩
  | .hbm, ⟨8, _⟩ => ⟨S32x256, .f32⟩
  | .hbm, ⟨9, _⟩ => ⟨S16x16x32, .f32⟩
  | .hbm, ⟨10, _⟩ => ⟨S16x512, .f32⟩
  | .hbm, ⟨11, _⟩ => ⟨S8192x48, .f32⟩
  | .local _ .vmem, ⟨0, _⟩ => ⟨S512x4096, .i32⟩
  | .local _ .vmem, ⟨1, _⟩ => ⟨S512x4096, .i32⟩
  | .local _ .vmem, ⟨2, _⟩ => ⟨S4096x512, .i32⟩
  | .local _ .vmem, ⟨3, _⟩ => ⟨S4096x512, .i32⟩
  | .local _ .vmem, ⟨4, _⟩ => ⟨S4096x32, .f32⟩
  | .local _ .vmem, ⟨5, _⟩ => ⟨S4096x16, .f32⟩
  | .local _ .vmem, ⟨6, _⟩ => ⟨S4096x16, .f32⟩
  | .local _ .vmem, ⟨7, _⟩ => ⟨S4096x32, .f32⟩
  | .local _ .vmem, ⟨8, _⟩ => ⟨S32x256, .f32⟩
  | .local _ .vmem, ⟨9, _⟩ => ⟨S16x512, .f32⟩
  | .local _ .vmem, ⟨10, _⟩ => ⟨S8192x48, .f32⟩
  | .local _ .vmem, ⟨11, _⟩ => ⟨S32x4096, .f32⟩
  | .local _ .vmem, ⟨12, _⟩ => ⟨S16x4096, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let c2_i32 : BitVec 32 := 2#32
  let v6 : BitVec 1 := Scalar.cmpi .eq arg0 c2_i32
  let v7 : BitVec 1 := Scalar.ori v5 v6
  let v8 : BitVec 32 := Scalar.extui v7
  let c0_i32_3 : BitVec 32 := 0#32
  let v9 : BitVec 1 := Scalar.cmpi .ne v8 c0_i32_3
  v9

def k0_off1 (i : grid0.Coords) : Fin 2 → Nat :=
  let c0_73 : Index := 0#32
  let arg1 : BitVec 32 := BitVec.ofNat 32 (i 1).val
  let c512_i32 : BitVec 32 := 512#32
  let v138 : BitVec 32 := Scalar.muli arg1 c512_i32
  let v139 : Index := Scalar.indexCast v138
  ![0, v139.toNat]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let c3_i32 : BitVec 32 := 3#32
  let v11 : BitVec 1 := Scalar.cmpi .eq arg0 c3_i32
  let v12 : BitVec 1 := Scalar.ori v10 v11
  let v13 : BitVec 32 := Scalar.extui v12
  let c0_i32_4 : BitVec 32 := 0#32
  let v14 : BitVec 1 := Scalar.cmpi .ne v13 c0_i32_4
  v14

def k0_off2 (i : grid0.Coords) : Fin 2 → Nat :=
  let c0_73 : Index := 0#32
  let arg1 : BitVec 32 := BitVec.ofNat 32 (i 1).val
  let c512_i32 : BitVec 32 := 512#32
  let v137 : BitVec 32 := Scalar.muli arg1 c512_i32
  let v138 : Index := Scalar.indexCast v137
  ![0, v138.toNat]
def k0_cond4 (i : grid0.Coords) : BitVec 1 :=
  let arg0 : BitVec 32 := BitVec.ofNat 32 (i 0).val
  let c3_i32_5 : BitVec 32 := 3#32
  let v15 : BitVec 1 := Scalar.cmpi .eq arg0 c3_i32_5
  let arg1 : BitVec 32 := BitVec.ofNat 32 (i 1).val
  let c7_i32 : BitVec 32 := 7#32
  let v16 : BitVec 1 := Scalar.cmpi .eq arg1 c7_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 1 := Scalar.cmpi .eq arg0 c2_i32
  let v2 : BitVec 1 := Scalar.ori v0 v1
  let c7_i32 : BitVec 32 := 7#32
  let v3 : BitVec 32 := Scalar.select v2 arg1 c7_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let c7_i32 : BitVec 32 := 7#32
  let v1 : BitVec 32 := Scalar.select v0 c0_i32_0 c7_i32
  let c0_i32_1 : BitVec 32 := 0#32
  let v2 : BitVec 1 := Scalar.cmpi .eq arg0 c0_i32_1
  let c2_i32 : BitVec 32 := 2#32
  let v3 : BitVec 1 := Scalar.cmpi .eq arg0 c2_i32
  let v4 : BitVec 1 := Scalar.ori v2 v3
  let v5 : BitVec 32 := Scalar.select v4 v1 arg1
  let c0_i32_2 : BitVec 32 := 0#32
  let c0_i32_3 : BitVec 32 := 0#32
  ![c0_i32_2.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8192x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4096x32 : Shape := ⟨2, ![4096, 32]⟩
abbrev S4096x16 : Shape := ⟨2, ![4096, 16]⟩
abbrev S16x32x16 : Shape := ⟨3, ![16, 32, 16]⟩
abbrev S16x16x32 : Shape := ⟨3, ![16, 16, 32]⟩
abbrev S4096x4096 : Shape := ⟨2, ![4096, 4096]⟩
abbrev S_ : Shape := ⟨0, ![]⟩
abbrev S4096 : Shape := ⟨1, ![4096]⟩
abbrev S4095 : Shape := ⟨1, ![4095]⟩
abbrev S1 : Shape := ⟨1, ![1]⟩
abbrev S4094 : Shape := ⟨1, ![4094]⟩
abbrev S2 : Shape := ⟨1, ![2]⟩
abbrev S4092 : Shape := ⟨1, ![4092]⟩
abbrev S4 : Shape := ⟨1, ![4]⟩
abbrev S4088 : Shape := ⟨1, ![4088]⟩
abbrev S8 : Shape := ⟨1, ![8]⟩
abbrev S4080 : Shape := ⟨1, ![4080]⟩
abbrev S16 : Shape := ⟨1, ![16]⟩
abbrev S4064 : Shape := ⟨1, ![4064]⟩
abbrev S32 : Shape := ⟨1, ![32]⟩
abbrev S4032 : Shape := ⟨1, ![4032]⟩
abbrev S64 : Shape := ⟨1, ![64]⟩
abbrev S3968 : Shape := ⟨1, ![3968]⟩
abbrev S128 : Shape := ⟨1, ![128]⟩
abbrev S3840 : Shape := ⟨1, ![3840]⟩
abbrev S256 : Shape := ⟨1, ![256]⟩
abbrev S3584 : Shape := ⟨1, ![3584]⟩
abbrev S512 : Shape := ⟨1, ![512]⟩
abbrev S3072 : Shape := ⟨1, ![3072]⟩
abbrev S1024 : Shape := ⟨1, ![1024]⟩
abbrev S2048 : Shape := ⟨1, ![2048]⟩
abbrev S16x1x1 : Shape := ⟨3, ![16, 1, 1]⟩
abbrev S1x4096x4096 : Shape := ⟨3, ![1, 4096, 4096]⟩
abbrev S16x4096x4096 : Shape := ⟨3, ![16, 4096, 4096]⟩
abbrev S16x4096x16 : Shape := ⟨3, ![16, 4096, 16]⟩
abbrev S16x4096x32 : Shape := ⟨3, ![16, 4096, 32]⟩
abbrev S4096x1 : Shape := ⟨2, ![4096, 1]⟩
abbrev S4096x48 : Shape := ⟨2, ![4096, 48]⟩
abbrev S8192x48 : Shape := ⟨2, ![8192, 48]⟩

abbrev nBuf : Space → Nat
  | .hbm => 160
  | .vmem => 0
  | .smem => 0
  | _ => 0

abbrev hbmTy0_0 (i : Nat) : BufTy := match i % 128 with
  | 0 => ⟨S4096x32, .f32⟩
  | 1 => ⟨S4096x16, .f32⟩
  | 2 => ⟨S4096x16, .f32⟩
  | 3 => ⟨S4096x32, .f32⟩
  | 4 => ⟨S16x32x16, .f32⟩
  | 5 => ⟨S16x16x32, .f32⟩
  | 6 => ⟨S4096x4096, .i32⟩
  | 7 => ⟨S_, .i32⟩
  | 8 => ⟨S4096x4096, .i32⟩
  | 9 => ⟨S4096x4096, .i1⟩
  | 10 => ⟨S4096x4096, .i32⟩
  | 11 => ⟨S_, .i32⟩
  | 12 => ⟨S4096, .i32⟩
  | 13 => ⟨S4096, .f32⟩
  | 14 => ⟨S_, .f32⟩
  | 15 => ⟨S4096, .f32⟩
  | 16 => ⟨S4096, .i1⟩
  | 17 => ⟨S_, .f32⟩
  | 18 => ⟨S4096, .f32⟩
  | 19 => ⟨S4096, .f32⟩
  | 20 => ⟨S_, .f32⟩
  | 21 => ⟨S_, .f32⟩
  | 22 => ⟨S4096, .f32⟩
  | 23 => ⟨S4096, .f32⟩
  | 24 => ⟨S4095, .f32⟩
  | 25 => ⟨S_, .f32⟩
  | 26 => ⟨S1, .f32⟩
  | 27 => ⟨S4096, .f32⟩
  | 28 => ⟨S4096, .f32⟩
  | 29 => ⟨S4094, .f32⟩
  | 30 => ⟨S_, .f32⟩
  | 31 => ⟨S2, .f32⟩
  | 32 => ⟨S4096, .f32⟩
  | 33 => ⟨S4096, .f32⟩
  | 34 => ⟨S4092, .f32⟩
  | 35 => ⟨S_, .f32⟩
  | 36 => ⟨S4, .f32⟩
  | 37 => ⟨S4096, .f32⟩
  | 38 => ⟨S4096, .f32⟩
  | 39 => ⟨S4088, .f32⟩
  | 40 => ⟨S_, .f32⟩
  | 41 => ⟨S8, .f32⟩
  | 42 => ⟨S4096, .f32⟩
  | 43 => ⟨S4096, .f32⟩
  | 44 => ⟨S4080, .f32⟩
  | 45 => ⟨S_, .f32⟩
  | 46 => ⟨S16, .f32⟩
  | 47 => ⟨S4096, .f32⟩
  | 48 => ⟨S4096, .f32⟩
  | 49 => ⟨S4064, .f32⟩
  | 50 => ⟨S_, .f32⟩
  | 51 => ⟨S32, .f32⟩
  | 52 => ⟨S4096, .f32⟩
  | 53 => ⟨S4096, .f32⟩
  | 54 => ⟨S4032, .f32⟩
  | 55 => ⟨S_, .f32⟩
  | 56 => ⟨S64, .f32⟩
  | 57 => ⟨S4096, .f32⟩
  | 58 => ⟨S4096, .f32⟩
  | 59 => ⟨S3968, .f32⟩
  | 60 => ⟨S_, .f32⟩
  | 61 => ⟨S128, .f32⟩
  | 62 => ⟨S4096, .f32⟩
  | 63 => ⟨S4096, .f32⟩
  | 64 => ⟨S3840, .f32⟩
  | 65 => ⟨S_, .f32⟩
  | 66 => ⟨S256, .f32⟩
  | 67 => ⟨S4096, .f32⟩
  | 68 => ⟨S4096, .f32⟩
  | 69 => ⟨S3584, .f32⟩
  | 70 => ⟨S_, .f32⟩
  | 71 => ⟨S512, .f32⟩
  | 72 => ⟨S4096, .f32⟩
  | 73 => ⟨S4096, .f32⟩
  | 74 => ⟨S3072, .f32⟩
  | 75 => ⟨S_, .f32⟩
  | 76 => ⟨S1024, .f32⟩
  | 77 => ⟨S4096, .f32⟩
  | 78 => ⟨S4096, .f32⟩
  | 79 => ⟨S2048, .f32⟩
  | 80 => ⟨S_, .f32⟩
  | 81 => ⟨S2048, .f32⟩
  | 82 => ⟨S4096, .f32⟩
  | 83 => ⟨S4096, .f32⟩
  | 84 => ⟨S1, .f32⟩
  | 85 => ⟨S_, .f32⟩
  | 86 => ⟨S16x1x1, .i32⟩
  | 87 => ⟨S1x4096x4096, .i32⟩
  | 88 => ⟨S16x4096x4096, .i32⟩
  | 89 => ⟨S16x4096x4096, .i32⟩
  | 90 => ⟨S16x4096x4096, .i1⟩
  | 91 => ⟨S_, .f32⟩
  | 92 => ⟨S_, .f32⟩
  | 93 => ⟨S16x4096x4096, .f32⟩
  | 94 => ⟨S16x4096x4096, .f32⟩
  | 95 => ⟨S16x4096x4096, .f32⟩
  | 96 => ⟨S16x4096x4096, .f32⟩
  | 97 => ⟨S16x4096x16, .f32⟩
  | 98 => ⟨S16x4096x32, .f32⟩
  | 99 => ⟨S_, .f32⟩
  | 100 => ⟨S4096x32, .f32⟩
  | 101 => ⟨S4096x32, .f32⟩
  | 102 => ⟨S4096x32, .f32⟩
  | 103 => ⟨S4096x1, .f32⟩
  | 104 => ⟨S4096x32, .f32⟩
  | 105 => ⟨S4096x32, .f32⟩
  | 106 => ⟨S4096x32, .f32⟩
  | 107 => ⟨S16x4096x4096, .f32⟩
  | 108 => ⟨S16x4096x32, .f32⟩
  | 109 => ⟨S16x4096x16, .f32⟩
  | 110 => ⟨S_, .f32⟩
  | 111 => ⟨S4096x16, .f32⟩
  | 112 => ⟨S4096x16, .f32⟩
  | 113 => ⟨S_, .f32⟩
  | 114 => ⟨S4096, .f32⟩
  | 115 => ⟨S_, .f32⟩
  | 116 => ⟨S4096, .f32⟩
  | 117 => ⟨S4096, .f32⟩
  | 118 => ⟨S4096x1, .f32⟩
  | 119 => ⟨S4096x16, .f32⟩
  | 120 => ⟨S4096x16, .f32⟩
  | 121 => ⟨S4096x16, .f32⟩
  | 122 => ⟨S_, .f32⟩
  | 123 => ⟨S4096, .f32⟩
  | 124 => ⟨S4096x1, .f32⟩
  | 125 => ⟨S4096x16, .f32⟩
  | 126 => ⟨S4096x16, .f32⟩
  | 127 => ⟨S16x4096x16, .f32⟩
  | _ => ⟨S4096x32, .f32⟩

abbrev hbmTy0_1 (i : Nat) : BufTy := match i % 128 with
  | 0 => ⟨S16x4096x32, .f32⟩
  | 1 => ⟨S_, .f32⟩
  | 2 => ⟨S4096x32, .f32⟩
  | 3 => ⟨S4096x32, .f32⟩
  | 4 => ⟨S4096x32, .f32⟩
  | 5 => ⟨S4096x1, .f32⟩
  | 6 => ⟨S4096x32, .f32⟩
  | 7 => ⟨S4096x32, .f32⟩
  | 8 => ⟨S4096x32, .f32⟩
  | 9 => ⟨S16x4096x4096, .f32⟩
  | 10 => ⟨S16x4096x32, .f32⟩
  | 11 => ⟨S16x4096x16, .f32⟩
  | 12 => ⟨S_, .f32⟩
  | 13 => ⟨S4096x16, .f32⟩
  | 14 => ⟨S4096x16, .f32⟩
  | 15 => ⟨S_, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x16, .f32⟩
  | 22 => ⟨S4096x16, .f32⟩
  | 23 => ⟨S4096x16, .f32⟩
  | 24 => ⟨S_, .f32⟩
  | 25 => ⟨S4096, .f32⟩
  | 26 => ⟨S4096x1, .f32⟩
  | 27 => ⟨S4096x16, .f32⟩
  | 28 => ⟨S4096x16, .f32⟩
  | 29 => ⟨S4096x48, .f32⟩
  | 30 => ⟨S4096x48, .f32⟩
  | 31 => ⟨S8192x48, .f32⟩
  | _ => ⟨S4096x32, .f32⟩

abbrev hbmTy (i : Nat) : BufTy := match i / 128 with
  | 0 => hbmTy0_0 i
  | 1 => hbmTy0_1 i
  | _ => ⟨S4096x32, .f32⟩

abbrev bufTy : (tb : Table) → Fin (tcTables nBuf tb) → BufTy
  | .hbm, ⟨i, _⟩ => hbmTy i
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_cst_16 : Ref sig .tc := ⟨.hbm, 92, rfl⟩
abbrev main_call1_v0 : Ref sig .tc := ⟨.hbm, 93, rfl⟩
abbrev main_call1_v1 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_17 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_cst_20 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_21 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_23 : Ref sig .tc := ⟨.hbm, 140, rfl⟩
abbrev main_v104 : Ref sig .tc := ⟨.hbm, 141, rfl⟩
abbrev main_v105 : Ref sig .tc := ⟨.hbm, 142, rfl⟩
abbrev main_cst_24 : Ref sig .tc := ⟨.hbm, 143, rfl⟩
abbrev main_v106 : Ref sig .tc := ⟨.hbm, 144, rfl⟩
abbrev main_cst_25 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_26 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩

abbrev nD : Nat := 1
abbrev τ : Topo := Topo.v7x

variable {F : FTy → Type} [FloatOps F]
-- ==== Proof.Pieces.lean ====
/- What one grid point leaves in the two arrays the kernel carries from point to point — the abilities `[32, 4096]` and the
   task types `[16, 4096]` — and in the result array, element by element. A worker point rewrites the 512 columns of its block of
   the abilities and keeps the rest, a task point rewrites the 512 columns of its block of the task types and keeps the rest; the
   first point also fills both arrays from the arguments, the last one also writes the result. -/
module

public import proofs.«01_k».proof.Defs
public import proofs.«01_k».proof.Proof.Gen.KernelIdeal.Value
public import Idealize.ShloMosaic.Lib.Pipeline.ValueKit
public import Idealize.ShloMosaic.Lib.WritesUnit

@[expose] public section

set_option maxRecDepth 16384

noncomputable section

namespace Cert.KernelIdeal.Blocks

open Idealize.ShloMosaic Idealize.ShloMosaic.TcCoe Idealize.SL.Sem
open Cert.KernelIdeal Cert.KernelIdeal.Gen

variable {F : FTy → Type} [FloatOps F]

/-- The 512 new columns of the abilities a worker point computes: from the block `x` of labels (512 workers, all tasks), the task
    types `u`, the packed weights `w` and the old columns `a`. -/
def workBlock (x : Vec F S512x4096 .i32) (u : Vec F S16x4096 .f32) (w : Vec F S32x256 .f32) (a : Vec F S32x512 .f32) :
    FVec F S32x512 .f32 :=
  k0_pay3 (k0_pay26 (k0_pay7 x) (k0_pay8 u) (k0_pay9 u) (k0_pay10 x u) (k0_pay11 x u) (k0_pay12 x u) (k0_pay13 x u)
    (k0_pay17 (k0_pay8 u) (k0_pay14 x) k0_pay15 k0_pay16) (k0_pay18 (k0_pay7 x) (k0_pay8 u)) (k0_pay19 (k0_pay7 x) (k0_pay8 u))
    (k0_pay20 (k0_pay7 x) (k0_pay8 u)) (k0_pay21 (k0_pay7 x) (k0_pay8 u)) (k0_pay22 (k0_pay7 x) (k0_pay8 u)) (k0_pay23 (k0_pay7 x))
    k0_pay24 k0_pay25) w a

/-- The 512 new columns of the task types a task point computes: from the block `x` of labels (all workers, 512 tasks), the
    abilities `a`, the packed weights `w` and the old columns `u`. -/
def taskBlock (x : Vec F S4096x512 .i32) (a : Vec F S32x4096 .f32) (w : Vec F S16x512 .f32) (u : Vec F S16x512 .f32) :
    FVec F S16x512 .f32 :=
  k0_pay4 (k0_pay42 (k0_pay27 x) (k0_pay28 a) (k0_pay29 a) (k0_pay30 x a) (k0_pay31 x a) (k0_pay32 x a) (k0_pay33 x a)
    (k0_pay35 (k0_pay28 a) (k0_pay34 x)) (k0_pay36 (k0_pay27 x) (k0_pay28 a)) (k0_pay37 (k0_pay27 x) (k0_pay28 a))
    (k0_pay38 (k0_pay27 x) (k0_pay28 a)) (k0_pay39 (k0_pay27 x) (k0_pay28 a)) (k0_pay40 (k0_pay27 x) (k0_pay28 a))
    (k0_pay41 (k0_pay27 x))) w u

theorem zero_off : (![0, 0] : Fin 2 → Nat) = fun _ => 0 := funext fun a => by fin_cases a <;> rfl

/-- The first column of block `b`, as the kernel computes it on 32-bit words. -/
theorem col_off (b : Fin 8) : BitVec.toNat (Scalar.indexCast (Scalar.muli (BitVec.ofNat 32 b.val) 512#32)) = 512 * b.val := by
  revert b; decide +kernel

/-- The same as a pair of offsets. -/
theorem pair_off (b : Fin 8) :
    (![0, BitVec.toNat (Scalar.indexCast (Scalar.muli (BitVec.ofNat 32 b.val) 512#32))] : Fin 2 → Nat) = ![0, 512 * b.val] := by
  rw [col_off]

/-- 512 columns of a `[n, 4096]` array, from column `512 * b`. -/
def cols {e : EltTy} {n : ℕ} (b : Fin 8) (x : Vec F ⟨2, ![n, 4096]⟩ e) : Vec F ⟨2, ![n, 512]⟩ e := fun p =>
  x fun a => match a with
    | ⟨0, _⟩ => ⟨(p 0).val, (p 0).isLt⟩
    | ⟨1, _⟩ => ⟨512 * b.val + (p 1).val, by have h1 : (p 1).val < 512 := (p 1).isLt; have h2 := b.isLt; show _ < 4096; omega⟩

/-- A load of 512 columns from block `b`'s first one. -/
theorem ld_cols {e : EltTy} {n : ℕ} (b : Fin 8) (x : Vec F ⟨2, ![n, 4096]⟩ e) (inb) :
    View.ld (S := ⟨2, ![n, 4096]⟩) x (Rect.unit (s := ⟨2, ![n, 4096]⟩)
      ![0, BitVec.toNat (Scalar.indexCast (Scalar.muli (BitVec.ofNat 32 b.val) 512#32))] ![n, 512] inb) = cols b x := by
  funext p
  refine View.ld_unit_apply_of (S := ⟨2, ![n, 4096]⟩) x _ _ inb p _ fun a => ?_
  match a with
  | ⟨0, _⟩ => exact (Nat.zero_add _).symm
  | ⟨1, _⟩ => exact congrArg (· + (p 1).val) (col_off b).symm

/-- A buffer whose newest write covers it reads as that write's payload. -/
theorem read_full {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  funext y
  exact View.read_writes_cons_unit_of_mem v f inb w L y y h fun a => (Nat.zero_add _).symm

variable (c : Dev nD) (i : grid0.Coords)
  (arg2 : Memref sig .tc .vmem S512x4096 .i32) (harg2 : arg2.IsWhole)
  (arg3 : Memref sig .tc .vmem S4096x512 .i32) (harg3 : arg3.IsWhole)
  (arg4 : Memref sig .tc .vmem S4096x32 .f32) (harg4 : arg4.IsWhole)
  (arg5 : Memref sig .tc .vmem S4096x16 .f32) (harg5 : arg5.IsWhole)
  (arg6 : Memref sig .tc .vmem S4096x16 .f32) (harg6 : arg6.IsWhole)
  (arg7 : Memref sig .tc .vmem S4096x32 .f32) (harg7 : arg7.IsWhole)
  (arg8 : Memref sig .tc .vmem S32x256 .f32) (harg8 : arg8.IsWhole)
  (arg9 : Memref sig .tc .vmem S16x512 .f32) (harg9 : arg9.IsWhole)
  (arg10 : Memref sig .tc .vmem S8192x48 .f32) (harg10 : arg10.IsWhole)
  (arg11 : Memref sig .tc .vmem S32x4096 .f32) (harg11 : arg11.IsWhole)
  (arg12 : Memref sig .tc .vmem S16x4096 .f32) (harg12 : arg12.IsWhole)
  (x0 : Vec F S512x4096 .i32) (x1 : Vec F S4096x512 .i32) (x2 : Vec F S4096x32 .f32) (x3 : Vec F S4096x16 .f32)
  (x4 : Vec F S4096x16 .f32) (x5 : Vec F S4096x32 .f32) (x6 : Vec F S32x256 .f32) (x7 : Vec F S16x512 .f32)

/-- A worker point, under its block of columns: the new columns. -/
theorem worker_hit (hc0 : ¬cond0_0 i) (hc1 : cond0_1 i) (hc2 : ¬cond0_2 i) (hc3 : ¬cond0_3 i)
    (xs0 : Vec F S32x4096 .f32) (xs1 : Vec F S16x4096 .f32) (p : S32x512.Idx) (j : S32x4096.Idx) (h0 : (j 0).val = (p 0).val) (h1 : (j 1).val = 512 * (i 1).val + (p 1).val) :
    sout0_B_0 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j
      = workBlock x0 xs1 x6 (cols (i 1) xs0) p := by
  unfold sout0_B_0 kernelRun0_B
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_mem _ _ _ _ _ j p (pair_off (i 1)) fun a => ?_).trans ?_
  · match a with
    | ⟨0, _⟩ => exact h0.trans (Nat.zero_add _).symm
    | ⟨1, _⟩ => exact h1
  exact congrArg (fun a => workBlock x0 xs1 x6 a p) (ld_cols (i 1) xs0 _)

/-- A worker point, outside its block of columns: what the array held. -/
theorem worker_miss (hc0 : ¬cond0_0 i) (hc1 : cond0_1 i) (hc2 : ¬cond0_2 i) (hc3 : ¬cond0_3 i)
    (xs0 : Vec F S32x4096 .f32) (xs1 : Vec F S16x4096 .f32) (j : S32x4096.Idx) (h1 : (j 1).val < 512 * (i 1).val ∨ 512 * (i 1).val + 512 ≤ (j 1).val) :
    sout0_B_0 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j = xs0 j := by
  unfold sout0_B_0 kernelRun0_B
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_not_mem (size := ![32, 512]) _ _ _ _ _ j (pair_off (i 1)) 1 ?_).trans ?_
  · exact h1
  exact congrFun (harg11.read_unread xs0) j

/-- A task point, under its block of columns: the new columns. -/
theorem task_hit (hc0 : ¬cond0_0 i) (hc1 : ¬cond0_1 i) (hc2 : cond0_2 i) (hc3 : ¬cond0_3 i)
    (xs0 : Vec F S32x4096 .f32) (xs1 : Vec F S16x4096 .f32) (p : S16x512.Idx) (j : S16x4096.Idx) (h0 : (j 0).val = (p 0).val) (h1 : (j 1).val = 512 * (i 1).val + (p 1).val) :
    sout0_C_1 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j
      = taskBlock x1 xs0 x7 (cols (i 1) xs1) p := by
  unfold sout0_C_1 kernelRun0_C
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_mem _ _ _ _ _ j p (pair_off (i 1)) fun a => ?_).trans ?_
  · match a with
    | ⟨0, _⟩ => exact h0.trans (Nat.zero_add _).symm
    | ⟨1, _⟩ => exact h1
  exact congrArg (fun a => taskBlock x1 xs0 x7 a p) (ld_cols (i 1) xs1 _)

/-- A task point, outside its block of columns: what the array held. -/
theorem task_miss (hc0 : ¬cond0_0 i) (hc1 : ¬cond0_1 i) (hc2 : cond0_2 i) (hc3 : ¬cond0_3 i)
    (xs0 : Vec F S32x4096 .f32) (xs1 : Vec F S16x4096 .f32) (j : S16x4096.Idx) (h1 : (j 1).val < 512 * (i 1).val ∨ 512 * (i 1).val + 512 ≤ (j 1).val) :
    sout0_C_1 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j = xs1 j := by
  unfold sout0_C_1 kernelRun0_C
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_not_mem (size := ![16, 512]) _ _ _ _ _ j (pair_off (i 1)) 1 ?_).trans ?_
  · exact h1
  exact congrFun (harg12.read_unread xs1) j

/-- The last point, under its block of columns: the new columns. -/
theorem last_hit (hc0 : ¬cond0_0 i) (hc1 : ¬cond0_1 i) (hc2 : cond0_2 i) (hc3 : cond0_3 i)
    (xs0 : Vec F S32x4096 .f32) (xs1 : Vec F S16x4096 .f32) (p : S16x512.Idx) (j : S16x4096.Idx) (h0 : (j 0).val = (p 0).val) (h1 : (j 1).val = 512 * (i 1).val + (p 1).val) :
    sout0_D_1 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j
      = taskBlock x1 xs0 x7 (cols (i 1) xs1) p := by
  unfold sout0_D_1 kernelRun0_D
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_mem _ _ _ _ _ j p (pair_off (i 1)) fun a => ?_).trans ?_
  · match a with
    | ⟨0, _⟩ => exact h0.trans (Nat.zero_add _).symm
    | ⟨1, _⟩ => exact h1
  exact congrArg (fun a => taskBlock x1 xs0 x7 a p) (ld_cols (i 1) xs1 _)

/-- The last point, outside its block of columns: what the array held. -/
theorem last_miss (hc0 : ¬cond0_0 i) (hc1 : ¬cond0_1 i) (hc2 : cond0_2 i) (hc3 : cond0_3 i)
    (xs0 : Vec F S32x4096 .f32) (xs1 : Vec F S16x4096 .f32) (j : S16x4096.Idx) (h1 : (j 1).val < 512 * (i 1).val ∨ 512 * (i 1).val + 512 ≤ (j 1).val) :
    sout0_D_1 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j = xs1 j := by
  unfold sout0_D_1 kernelRun0_D
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_not_mem (size := ![16, 512]) _ _ _ _ _ j (pair_off (i 1)) 1 ?_).trans ?_
  · exact h1
  exact congrFun (harg12.read_unread xs1) j

/-- The first point, under its block of columns: the new columns, over the abilities and task types it has just filled in. -/
theorem first_hit (hc0 : cond0_0 i) (hc1 : cond0_1 i) (hc2 : ¬cond0_2 i) (hc3 : ¬cond0_3 i)
    (p : S32x512.Idx) (j : S32x4096.Idx) (h0 : (j 0).val = (p 0).val) (h1 : (j 1).val = 512 * (i 1).val + (p 1).val) :
    sout0_A_0 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 j
      = workBlock x0 (k0_pay2 x3) x6 (cols (e := .f32) (n := 32) (i 1) (k0_pay1 x2)) p := by
  unfold sout0_A_0 kernelRun0_A
  dsimp only
  sl_unfold_words
  simp only [View.readAt_eq_ld, harg2.read_unread, harg3.read_unread, harg4.read_unread, harg5.read_unread, harg6.read_unread, harg7.read_unread, harg8.read_unread, harg9.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_mem _ _ _ _ _ j p (pair_off (i 1)) fun a => ?_).trans ?_
  · match a with
    | ⟨0, _⟩ => exact h0.trans (Nat.zero_add _).symm
    | ⟨1, _⟩ => exact h1
  rw [View.readCov_unit_zero (S := S16x4096) _ zero_off]
  refine congrArg (fun a => workBlock x0 (k0_pay2 x3) x6 a p) (Eq.trans ?_ (ld_cols (e := .f32) (n := 32) (i 1) (k0_pay1 x2) (k0_off1_inb i hc1)))
  exact congrArg (fun z => View.ld (S := S32x4096) z _) (read_full (S := S32x4096) _ _ zero_off _ _ [])

/-- The first point, outside its block of columns: the abilities it has just filled in. -/
theorem first_miss (hc0 : cond0_0 i) (hc1 : cond0_1 i) (hc2 : ¬cond0_2 i) (hc3 : ¬cond0_3 i)
    (j : S32x4096.Idx) (h1 : (j 1).val < 512 * (i 1).val ∨ 512 * (i 1).val + 512 ≤ (j 1).val) :
    sout0_A_0 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 j = k0_pay1 x2 j := by
  unfold sout0_A_0 kernelRun0_A
  dsimp only
  sl_unfold_words
  simp only [View.readAt_eq_ld, harg2.read_unread, harg3.read_unread, harg4.read_unread, harg5.read_unread, harg6.read_unread, harg7.read_unread, harg8.read_unread, harg9.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_not_mem (size := ![32, 512]) _ _ _ _ _ j (pair_off (i 1)) 1 ?_).trans ?_
  · exact h1
  exact congrFun (read_full (S := S32x4096) _ _ zero_off _ _ []) j

/-- The first point leaves in the task types what it has just filled in. -/
theorem first_types (hc0 : cond0_0 i) (hc1 : cond0_1 i) (hc2 : ¬cond0_2 i) (hc3 : ¬cond0_3 i)
     :
    sout0_A_1 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 = k0_pay2 x3 := by
  unfold sout0_A_1 kernelRun0_A
  dsimp only
  sl_unfold_words
  simp only [View.readAt_eq_ld, harg2.read_unread, harg3.read_unread, harg4.read_unread, harg5.read_unread, harg6.read_unread, harg7.read_unread, harg8.read_unread, harg9.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  exact read_full (S := S16x4096) _ _ zero_off _ _ []

/-- The result's lower right part is the last padding. -/
theorem result_low_right (hc0 : ¬cond0_0 i) (hc1 : ¬cond0_1 i) (hc2 : cond0_2 i) (hc3 : cond0_3 i)
    (xs0 : Vec F S32x4096 .f32) (xs1 : Vec F S16x4096 .f32) (p : S4096x32.Idx) (j : S8192x48.Idx) (h0 : (j 0).val = 4096 + (p 0).val) (h1 : (j 1).val = 16 + (p 1).val) :
    out0_D_8 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j = x5 p := by
  unfold out0_D_8 kernelRun0_D
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_mem _ _ _ _ _ j p rfl fun a => ?_).trans ?_
  · match a with
    | ⟨0, _⟩ => exact h0
    | ⟨1, _⟩ => exact h1
  rfl

/-- The result's lower left part is the task types the last point leaves, transposed. -/
theorem result_low_left (hc0 : ¬cond0_0 i) (hc1 : ¬cond0_1 i) (hc2 : cond0_2 i) (hc3 : cond0_3 i)
    (xs0 : Vec F S32x4096 .f32) (xs1 : Vec F S16x4096 .f32) (p : S4096x16.Idx) (j : S8192x48.Idx) (h0 : (j 0).val = 4096 + (p 0).val) (h1 : (j 1).val = 0 + (p 1).val) :
    out0_D_8 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j
    = k0_pay6 (sout0_D_1 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1) p := by
  unfold sout0_D_1
  unfold out0_D_8 kernelRun0_D
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_not_mem _ _ _ _ _ j rfl 1 (Or.inl ?_)).trans ?_
  · have hb : (p 1).val < 16 := (p 1).isLt
    show (j 1).val < 16; omega
  refine (View.read_writes_cons_unit_of_mem _ _ _ _ _ j p rfl fun a => ?_).trans ?_
  · match a with
    | ⟨0, _⟩ => exact h0
    | ⟨1, _⟩ => exact h1
  rfl

/-- The result's upper right part is the first padding. -/
theorem result_up_right (hc0 : ¬cond0_0 i) (hc1 : ¬cond0_1 i) (hc2 : cond0_2 i) (hc3 : cond0_3 i)
    (xs0 : Vec F S32x4096 .f32) (xs1 : Vec F S16x4096 .f32) (p : S4096x16.Idx) (j : S8192x48.Idx) (h0 : (j 0).val = 0 + (p 0).val) (h1 : (j 1).val = 32 + (p 1).val) :
    out0_D_8 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j = x4 p := by
  unfold out0_D_8 kernelRun0_D
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_not_mem _ _ _ _ _ j rfl 0 (Or.inl ?_)).trans ?_
  · have hb : (p 0).val < 4096 := (p 0).isLt
    show (j 0).val < 4096; omega
  refine (View.read_writes_cons_unit_of_not_mem _ _ _ _ _ j rfl 0 (Or.inl ?_)).trans ?_
  · have hb : (p 0).val < 4096 := (p 0).isLt
    show (j 0).val < 4096; omega
  refine (View.read_writes_cons_unit_of_mem _ _ _ _ _ j p rfl fun a => ?_).trans ?_
  · match a with
    | ⟨0, _⟩ => exact h0
    | ⟨1, _⟩ => exact h1
  rfl

/-- The result's upper left part is the abilities, transposed. -/
theorem result_up_left (hc0 : ¬cond0_0 i) (hc1 : ¬cond0_1 i) (hc2 : cond0_2 i) (hc3 : cond0_3 i)
    (xs0 : Vec F S32x4096 .f32) (xs1 : Vec F S16x4096 .f32) (p : S4096x32.Idx) (j : S8192x48.Idx) (h0 : (j 0).val = 0 + (p 0).val) (h1 : (j 1).val = 0 + (p 1).val) :
    out0_D_8 c i arg2 harg2 arg3 harg3 arg4 harg4 arg5 harg5 arg6 harg6 arg7 harg7
      arg8 harg8 arg9 harg9 arg10 harg10 arg11 harg11 arg12 harg12 hc0 hc1 hc2 hc3 x0 x1 x2 x3 x4 x5 x6 x7 xs0 xs1 j = k0_pay5 xs0 p := by
  unfold out0_D_8 kernelRun0_D
  dsimp only
  sl_unfold_words
  simp only [View.readAt_eq_ld, harg2.read_unread, harg3.read_unread, harg4.read_unread, harg5.read_unread, harg6.read_unread, harg7.read_unread, harg8.read_unread, harg9.read_unread, harg11.read_unread, harg12.read_unread,
    View.ld_unit_zero (S := S512x4096) zero_off, View.ld_unit_zero (S := S4096x512) zero_off, View.ld_unit_zero (S := S4096x32) zero_off, View.ld_unit_zero (S := S4096x16) zero_off, View.ld_unit_zero (S := S32x256) zero_off, View.ld_unit_zero (S := S16x512) zero_off, View.ld_unit_zero (S := S32x4096) zero_off, View.ld_unit_zero (S := S16x4096) zero_off]
  refine (View.read_writes_cons_unit_of_not_mem _ _ _ _ _ j rfl 0 (Or.inl ?_)).trans ?_
  · have hb : (p 0).val < 4096 := (p 0).isLt
    show (j 0).val < 4096; omega
  refine (View.read_writes_cons_unit_of_not_mem _ _ _ _ _ j rfl 0 (Or.inl ?_)).trans ?_
  · have hb : (p 0).val < 4096 := (p 0).isLt
    show (j 0).val < 4096; omega
  refine (View.read_writes_cons_unit_of_not_mem _ _ _ _ _ j rfl 1 (Or.inl ?_)).trans ?_
  · have hb : (p 1).val < 32 := (p 1).isLt
    show (j 1).val < 32; omega
  refine (View.read_writes_cons_unit_of_mem _ _ _ _ _ j p rfl fun a => ?_).trans ?_
  · match a with
    | ⟨0, _⟩ => exact h0
    | ⟨1, _⟩ => exact h1
  rfl

end Cert.KernelIdeal.Blocks

end
-- ==== Proof.Steps.lean ====
/- One update of the graph, as plain sums over the extended reals: what a worker's new ability and a task's new type are, in the
   layout the kernel holds them in (`[32, 4096]` abilities, `[16, 4096]` task types), and that both stay finite. -/
module

public import Idealize.ShloMosaic.PureOps.Ideal
public import Idealize.ShloMosaic.PureOps.Ideal.Laws

@[expose] public section

noncomputable section

namespace Cert.Steps

open Idealize.ShloMosaic
open scoped BigOperators

/-- One where the label `x` is `e`, zero elsewhere. -/
def hit (x : BitVec 32) (e : ℕ) : EReal := if x.toInt = (e : ℤ) then 1 else 0

/-- The sum of `v` over the places labelled `e`. -/
def pick (x : Fin 4096 → BitVec 32) (v : Fin 4096 → EReal) (e : ℕ) : EReal := ∑ t, v t * hit (x t) e

/-- Worker `w`'s new ability `a`: the old one plus, over the 16 edge types `r / 16` and the 16 task types `r % 16`, the weight times
    the sum of that task type over the tasks the worker meets on that edge type. -/
def newAbility (X : Fin 4096 → Fin 4096 → BitVec 32) (W : Fin 32 → Fin 256 → EReal) (A : Fin 32 → Fin 4096 → EReal)
    (U : Fin 16 → Fin 4096 → EReal) (a : Fin 32) (w : Fin 4096) : EReal :=
  A a w + ∑ r : Fin 256, W a r * pick (fun t => X w t) (U ⟨r.val % 16, Nat.mod_lt _ (by decide)⟩) (r.val / 16)

/-- Task `t`'s logit for type `k`: the old value plus, over the 16 edge types `r / 32` and the 32 abilities `r % 32`, the weight
    times the sum of that ability over the workers the task meets on that edge type. -/
def logit (X : Fin 4096 → Fin 4096 → BitVec 32) (W : Fin 16 → Fin 512 → EReal) (A : Fin 32 → Fin 4096 → EReal)
    (U : Fin 16 → Fin 4096 → EReal) (k : Fin 16) (t : Fin 4096) : EReal :=
  U k t + ∑ r : Fin 512, W k r * pick (fun w => X w t) (A ⟨r.val % 32, Nat.mod_lt _ (by decide)⟩) (r.val / 32)

/-- The greatest of 16 values. -/
def top (z : Fin 16 → EReal) : EReal := (Finset.univ : Finset (Fin 16)).fold max ⊥ z

/-- The softmax of 16 values. -/
def softmax (z : Fin 16 → EReal) (k : Fin 16) : EReal :=
  Ideal.div (Ideal.exp (z k - top z)) (∑ k', Ideal.exp (z k' - top z))

/-- Task `t`'s new type `k`: the softmax of its logits. -/
def newType (X : Fin 4096 → Fin 4096 → BitVec 32) (W : Fin 16 → Fin 512 → EReal) (A : Fin 32 → Fin 4096 → EReal)
    (U : Fin 16 → Fin 4096 → EReal) (k : Fin 16) (t : Fin 4096) : EReal := softmax (fun k' => logit X W A U k' t) k

/-! ## Finite values -/

/-- An extended real that is a real number. -/
def Finite (x : EReal) : Prop := ∃ r : ℝ, x = r

theorem finite_of_ne {x : EReal} (h : x ≠ ⊥) (h' : x ≠ ⊤) : Finite x := ⟨x.toReal, (EReal.coe_toReal h' h).symm⟩

theorem Finite.add {x y : EReal} : Finite x → Finite y → Finite (x + y) := by
  rintro ⟨a, rfl⟩ ⟨b, rfl⟩; exact ⟨a + b, (EReal.coe_add a b).symm⟩

theorem Finite.sub {x y : EReal} : Finite x → Finite y → Finite (x - y) := by
  rintro ⟨a, rfl⟩ ⟨b, rfl⟩; exact ⟨a - b, (EReal.coe_sub a b).symm⟩

theorem Finite.mul {x y : EReal} : Finite x → Finite y → Finite (x * y) := by
  rintro ⟨a, rfl⟩ ⟨b, rfl⟩; exact ⟨a * b, (EReal.coe_mul a b).symm⟩

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Finite.sum {ι : Type} [Fintype ι] {f : ι → EReal} (h : ∀ i, Finite (f i)) : Finite (∑ i, f i) := by
  choose g hg using h
  exact ⟨∑ i, g i, by rw [coe_sum]; exact Finset.sum_congr rfl fun i _ => hg i⟩

/-- Zero or one, as the real number it is. -/
theorem hit_coe (x : BitVec 32) (e : ℕ) : hit x e = ((if x.toInt = (e : ℤ) then 1 else 0 : ℝ) : EReal) := by
  unfold hit; split <;> simp

theorem finite_hit (x : BitVec 32) (e : ℕ) : Finite (hit x e) := ⟨_, hit_coe x e⟩

theorem finite_pick {x : Fin 4096 → BitVec 32} {v : Fin 4096 → EReal} (hv : ∀ t, Finite (v t)) (e : ℕ) : Finite (pick x v e) :=
  Finite.sum fun t => (hv t).mul (finite_hit _ _)

/-- The greatest of finitely many values above a finite start is finite, and the start may be `⊥` if there is one value. -/
theorem finite_fold {ι : Type} [DecidableEq ι] (z : ι → EReal) (hz : ∀ i, Finite (z i)) (s : Finset ι) :
    (s = ∅ ∧ s.fold max ⊥ z = ⊥) ∨ Finite (s.fold max ⊥ z) := by
  induction s using Finset.induction_on with
  | empty => exact Or.inl ⟨rfl, rfl⟩
  | insert a s ha ih =>
    right
    rw [Finset.fold_insert ha]
    rcases ih with ⟨_, h⟩ | h
    · rw [h, max_eq_left bot_le]; exact hz a
    · rcases max_choice (z a) (s.fold max ⊥ z) with h' | h' <;> rw [h']
      exacts [hz a, h]

theorem finite_top {z : Fin 16 → EReal} (hz : ∀ k, Finite (z k)) : Finite (top z) :=
  (finite_fold z hz Finset.univ).resolve_left fun h => absurd h.1 (Finset.univ_nonempty.ne_empty)

/-- The softmax of finite values is finite: the sum it divides by is a positive real number. -/
theorem finite_softmax {z : Fin 16 → EReal} (hz : ∀ k, Finite (z k)) (k : Fin 16) : Finite (softmax z k) := by
  have hd : ∀ k', ∃ r : ℝ, Ideal.exp (z k' - top z) = (Real.exp r : EReal) := fun k' => by
    obtain ⟨r, hr⟩ := (hz k').sub (finite_top hz)
    exact ⟨r, by rw [hr]; rfl⟩
  choose g hg using hd
  unfold softmax
  rw [hg k, Finset.sum_congr rfl fun k' _ => hg k', ← coe_sum]
  have hpos : (0 : ℝ) < ∑ k', Real.exp (g k') := Finset.sum_pos (fun k' _ => Real.exp_pos _) Finset.univ_nonempty
  unfold Ideal.div
  rw [if_neg (by rw [← EReal.coe_zero, EReal.coe_eq_coe_iff]; exact hpos.ne')]
  exact ⟨_, by rw [← EReal.coe_inv, ← EReal.coe_mul]⟩

theorem finite_newAbility {X : Fin 4096 → Fin 4096 → BitVec 32} {W : Fin 32 → Fin 256 → EReal} {A : Fin 32 → Fin 4096 → EReal}
    {U : Fin 16 → Fin 4096 → EReal} (hW : ∀ a r, Finite (W a r)) (hA : ∀ a w, Finite (A a w)) (hU : ∀ k t, Finite (U k t))
    (a : Fin 32) (w : Fin 4096) : Finite (newAbility X W A U a w) :=
  (hA a w).add (Finite.sum fun r => (hW a r).mul (finite_pick (hU _) _))

theorem finite_newType {X : Fin 4096 → Fin 4096 → BitVec 32} {W : Fin 16 → Fin 512 → EReal} {A : Fin 32 → Fin 4096 → EReal}
    {U : Fin 16 → Fin 4096 → EReal} (hW : ∀ k r, Finite (W k r)) (hA : ∀ a w, Finite (A a w)) (hU : ∀ k t, Finite (U k t))
    (k : Fin 16) (t : Fin 4096) : Finite (newType X W A U k t) :=
  finite_softmax (fun k' => (hU k' t).add (Finite.sum fun r => (hW k' r).mul (finite_pick (hA _) _))) k

/-! ## The last edge type -/

/-- With finite values and labels among the 16 edge types, what the total leaves over after the first 15 edge types is the sum over
    the places of the last one. -/
theorem pick_last {x : Fin 4096 → BitVec 32} {v : Fin 4096 → EReal} (hv : ∀ t, Finite (v t))
    (hx : ∀ t, 0 ≤ (x t).toInt ∧ (x t).toInt < 16) :
    (∑ t, v t) - ∑ e : Fin 15, pick x v e.val = pick x v 15 := by
  choose g hg using hv
  have hp : ∀ e : ℕ, pick x v e = ((∑ t, g t * (if (x t).toInt = (e : ℤ) then 1 else 0) : ℝ) : EReal) := fun e => by
    unfold pick
    rw [coe_sum]
    exact Finset.sum_congr rfl fun t _ => by rw [hg t, hit_coe, EReal.coe_mul]
  rw [hp 15, Finset.sum_congr rfl fun t _ => hg t, Finset.sum_congr rfl fun (e : Fin 15) _ => hp e.val, ← coe_sum, ← coe_sum,
    ← EReal.coe_sub, EReal.coe_eq_coe_iff, sub_eq_iff_eq_add, Finset.sum_comm, ← Finset.sum_add_distrib]
  refine Finset.sum_congr rfl fun t _ => ?_
  rw [← Finset.mul_sum, ← mul_add]
  have h1 : (if (x t).toInt = ((15 : ℕ) : ℤ) then 1 else 0 : ℝ) + ∑ e : Fin 15, (if (x t).toInt = ((e.val : ℕ) : ℤ) then 1 else 0 : ℝ) = 1 := by
    obtain ⟨h0, h16⟩ := hx t
    obtain ⟨n, hn⟩ := Int.eq_ofNat_of_zero_le h0
    rw [hn] at h16 ⊢
    have hn16 : n < 16 := by exact_mod_cast h16
    have hs : ∑ e : Fin 16, (if e = (⟨n, hn16⟩ : Fin 16) then 1 else 0 : ℝ) = 1 := by simp
    rw [Fin.sum_univ_castSucc, add_comm] at hs
    simp only [Fin.ext_iff, Fin.val_last, Fin.val_castSucc] at hs
    simpa only [Nat.cast_inj, eq_comm (a := n)] using hs
  rw [h1, mul_one]

end Cert.Steps

end
-- ==== Proof.Parts.lean ====
/- The sums over the places of each edge type, as the kernel forms them: fifteen products with a mask of zeros and ones, the
   sixteenth as what the total leaves over, and the sixteen stacked. Read at an element, at the ideal values, the stack holds at
   row `n * e + i` the sum of row `i` over the places labelled `e`. -/
module

public import proofs.«01_k».proof.Proof.Pieces
public import proofs.«01_k».proof.Proof.Steps
public import Idealize.ShloMosaic.Lib.MatmulPlain
public import Idealize.ShloMosaic.Lib.ValueIdx
public import Idealize.ShloMosaic.Lib.ValueLayoutCasts
public import Idealize.ShloMosaic.Lib.IdealHost

@[expose] public section

set_option maxRecDepth 16384

noncomputable section

namespace Cert.KernelIdeal.Parts

open Idealize.ShloMosaic hiding ix1 ix2 ix3
open Idealize.ShloMosaic.ValueIdx
open Cert.KernelIdeal Cert.KernelIdeal.Gen Cert.KernelIdeal.Blocks Cert.Steps
open scoped BigOperators

variable {n : ℕ}

/-- The bf16 word of the label `e`, for the 15 labels the kernel compares with. -/
def word (e : ℕ) : BitVec 16 :=
  [0x0000#16, 0x3F80#16, 0x4000#16, 0x4040#16, 0x4080#16, 0x40A0#16, 0x40C0#16, 0x40E0#16, 0x4100#16, 0x4110#16, 0x4120#16,
    0x4130#16, 0x4140#16, 0x4150#16, 0x4160#16].getD e 0#16

/-- It is the number `e`. -/
theorem word_val (e : ℕ) (he : e < 15) : Ideal.ofBits .bf16 (word e) = ((e : ℝ) : EReal) := by
  interval_cases e <;> simp [word, Ideal.ofBits, Ideal.ieee, -EReal.coe_mul] <;> norm_num

/-- The product of `u` with the mask of the places whose label is `word e`. -/
def masked (xT : FVec Ideal S4096x512 .bf16) (u : FVec Ideal ⟨2, ![n, 4096]⟩ .bf16) (e : ℕ) : FVec Ideal ⟨2, ![n, 512]⟩ .f32 :=
  matmul (DotDims.plain n 4096 512) none u
    (select (cmpf .oeq xT (broadcast S4096x512 (Scalar.ofBits .bf16 (word e))))
      (broadcast S4096x512 (Scalar.ofBits .bf16 0x3F80#16)) (broadcast S4096x512 (Scalar.ofBits .bf16 0x0000#16)))
    (constant _ .f32 0x00000000#32)

/-- The running sum of the first products. -/
def running (f : ℕ → FVec Ideal ⟨2, ![n, 512]⟩ .f32) : ℕ → FVec Ideal ⟨2, ![n, 512]⟩ .f32
  | 0 => f 0
  | k + 1 => addf (running f k) (f (k + 1))

/-- The sixteen pieces of the stack: fifteen products, and the total of each row less the sum of them. -/
def piece (xT : FVec Ideal S4096x512 .bf16) (u : FVec Ideal ⟨2, ![n, 4096]⟩ .bf16) (s : FVec Ideal ⟨2, ![n, 1]⟩ .f32)
    (hb : (⟨2, ![n, 1]⟩ : Shape).Broadcasts ⟨2, ![n, 512]⟩) (e : Fin 16) : FVec Ideal ⟨2, ![n, 512]⟩ .f32 :=
  if e.val < 15 then masked xT u e.val else subf (broadcastTo ⟨2, ![n, 512]⟩ s hb) (running (masked xT u) 14)

/-- The running sum at an element. -/
theorem running_apply (f : ℕ → FVec Ideal ⟨2, ![n, 512]⟩ .f32) (k : ℕ) (p : (⟨2, ![n, 512]⟩ : Shape).Idx) :
    running f k p = ∑ e : Fin (k + 1), f e.val p := by
  induction k with
  | zero => simp [running]
  | succ k ih => rw [Fin.sum_univ_castSucc]; exact congrArg (· + f (k + 1) p) ih

/-- A masked product at an element: the sum of a row over the places of one label. -/
theorem masked_apply (xT : FVec Ideal S4096x512 .bf16) (x : Fin 4096 → BitVec 32) (u : FVec Ideal ⟨2, ![n, 4096]⟩ .bf16)
    (i : Fin n) (w : Fin 512) (hx : ∀ t, xT (ix2 t w) = (((x t).toInt : ℝ) : EReal)) (e : ℕ) (he : e < 15) :
    masked xT u e (ix2 i w) = pick x (fun t => u (ix2 i t)) e := by
  refine (Ideal.matmul_plain_apply none u _ _ i w).trans ?_
  rw [show (constant ⟨2, ![n, 512]⟩ .f32 0x00000000#32 : FVec Ideal _ .f32) (ix2 i w) = 0 from Ideal.ofBits_zero_f32, zero_add]
  refine Finset.sum_congr rfl fun t _ => congrArg (u (ix2 i t) * ·) ?_
  show Scalar.select (Ideal.cmp .oeq (xT (ix2 t w)) (Ideal.ofBits .bf16 (word e))) (Ideal.ofBits .bf16 0x3F80#16)
    (Ideal.ofBits .bf16 0x0000#16) = _
  rw [hx t, word_val e he, Ideal.ofBits_one_bf16, Ideal.ofBits_zero_bf16]
  have hiff : ((((x t).toInt : ℝ) : EReal) = ((e : ℝ) : EReal)) ↔ (x t).toInt = (e : ℤ) := by
    rw [EReal.coe_eq_coe_iff]; exact_mod_cast Iff.rfl
  unfold hit Scalar.select Ideal.cmp
  by_cases h : (x t).toInt = (e : ℤ)
  · simp [h]
  · rw [if_neg h, decide_eq_false (fun hc => h (hiff.mp hc))]; simp

/-- A piece at an element, for finite rows and labels among the 16 edge types: the sum over the places of its label. -/
theorem piece_apply (xT : FVec Ideal S4096x512 .bf16) (x : Fin 4096 → BitVec 32) (u : FVec Ideal ⟨2, ![n, 4096]⟩ .bf16)
    (s : FVec Ideal ⟨2, ![n, 1]⟩ .f32) (hb : (⟨2, ![n, 1]⟩ : Shape).Broadcasts ⟨2, ![n, 512]⟩)
    (i : Fin n) (w : Fin 512) (hx : ∀ t, xT (ix2 t w) = (((x t).toInt : ℝ) : EReal))
    (hl : ∀ t, 0 ≤ (x t).toInt ∧ (x t).toInt < 16) (hu : ∀ t, Finite (u (ix2 i t)))
    (hs : s (ix2 i (0 : Fin 1)) = ∑ t, u (ix2 i t)) (e : Fin 16) :
    piece xT u s hb e (ix2 i w) = pick x (fun t => u (ix2 i t)) e.val := by
  unfold piece
  by_cases h : e.val < 15
  · rw [if_pos h]; exact masked_apply xT x u i w hx e.val h
  · rw [if_neg h]
    have he : e.val = 15 := by omega
    rw [he, ← pick_last hu hl]
    show broadcastTo ⟨2, ![n, 512]⟩ s hb (ix2 i w) - running (masked xT u) 14 (ix2 i w) = _
    rw [running_apply, broadcastTo_apply s hb (ix2 i w) (ix2 i (0 : Fin 1)) (fun a => by
      match a with
      | ⟨0, _⟩ =>
        show i.val = if n = 1 then 0 else i.val
        split <;> omega
      | ⟨1, _⟩ => rfl), hs]
    refine congrArg ((∑ t, u (ix2 i t)) - ·) (Finset.sum_congr rfl fun e' _ => ?_)
    exact masked_apply xT x u i w hx e'.val e'.isLt

/-- The stack at an element: row `r` is row `r % n` of piece `r / n`. -/
theorem stack_apply {m : ℕ} (hn : 0 < n) (f : Fin 16 → FVec Ideal ⟨2, ![n, 512]⟩ .f32)
    (h : Shape.Concatenates ((List.ofFn fun e : Fin 16 => (⟨⟨2, ![n, 512]⟩, f e⟩ : (s : Shape) × (s.Idx → Ideal .f32))).map (·.1))
      ⟨2, ![m, 512]⟩ 0) (r : Fin m) (w : Fin 512) (hr : r.val / n < 16) :
    concatenate ⟨2, ![m, 512]⟩ 0 (List.ofFn fun e : Fin 16 => (⟨⟨2, ![n, 512]⟩, f e⟩ : (s : Shape) × (s.Idx → Ideal .f32))) h (ix2 r w)
      = f ⟨r.val / n, hr⟩ (ix2 (⟨r.val % n, Nat.mod_lt _ hn⟩ : Fin n) w) :=
  concatenate_ofFn_apply (t := ⟨2, ![m, 512]⟩) (s₁ := ⟨2, ![n, 512]⟩) 0 f h rfl n rfl (ix2 r w) ⟨r.val / n, hr⟩ rfl
    (ix2 (⟨r.val % n, Nat.mod_lt _ hn⟩ : Fin n) w) rfl (fun b hb => by
      match b with
      | ⟨0, _⟩ => exact absurd rfl hb
      | ⟨1, _⟩ => rfl)

/-- The worker point's stack is the sixteen pieces of the task types. -/
theorem work_stack (x : Vec Ideal S512x4096 .i32) (u : Vec Ideal S16x4096 .f32) :
    k0_pay26 (k0_pay7 x) (k0_pay8 u) (k0_pay9 u) (k0_pay10 x u) (k0_pay11 x u) (k0_pay12 x u) (k0_pay13 x u)
      (k0_pay17 (k0_pay8 u) (k0_pay14 x) k0_pay15 k0_pay16) (k0_pay18 (k0_pay7 x) (k0_pay8 u)) (k0_pay19 (k0_pay7 x) (k0_pay8 u))
      (k0_pay20 (k0_pay7 x) (k0_pay8 u)) (k0_pay21 (k0_pay7 x) (k0_pay8 u)) (k0_pay22 (k0_pay7 x) (k0_pay8 u)) (k0_pay23 (k0_pay7 x))
      k0_pay24 k0_pay25
    = concatenate S256x512 0 (List.ofFn fun e : Fin 16 => (⟨⟨2, ![16, 512]⟩, piece (k0_pay7 x) (k0_pay8 u) (k0_pay9 u)
        broadcasts_S16x1_S16x512 e⟩ : (s : Shape) × (s.Idx → Ideal .f32)))
      concatenates_S16x512_S16x512_S16x512_S16x512_S16x512_S16x512_S16x512_S16x512_S16x512_S16x512_S16x512_S16x512_S16x512_S16x512_S16x512_S16x512_S256x512_d0 :=
  rfl

/-- The task point's stack is the sixteen pieces of the abilities. -/
theorem task_stack (x : Vec Ideal S4096x512 .i32) (a : Vec Ideal S32x4096 .f32) :
    k0_pay42 (k0_pay27 x) (k0_pay28 a) (k0_pay29 a) (k0_pay30 x a) (k0_pay31 x a) (k0_pay32 x a) (k0_pay33 x a)
      (k0_pay35 (k0_pay28 a) (k0_pay34 x)) (k0_pay36 (k0_pay27 x) (k0_pay28 a)) (k0_pay37 (k0_pay27 x) (k0_pay28 a))
      (k0_pay38 (k0_pay27 x) (k0_pay28 a)) (k0_pay39 (k0_pay27 x) (k0_pay28 a)) (k0_pay40 (k0_pay27 x) (k0_pay28 a))
      (k0_pay41 (k0_pay27 x))
    = concatenate S512x512 0 (List.ofFn fun e : Fin 16 => (⟨⟨2, ![32, 512]⟩, piece (k0_pay27 x) (k0_pay28 a) (k0_pay29 a)
        broadcasts_S32x1_S32x512 e⟩ : (s : Shape) × (s.Idx → Ideal .f32)))
      concatenates_S32x512_S32x512_S32x512_S32x512_S32x512_S32x512_S32x512_S32x512_S32x512_S32x512_S32x512_S32x512_S32x512_S32x512_S32x512_S32x512_S512x512_d0 :=
  rfl

/-- The totals of the rows. -/
theorem work_totals (u : Vec Ideal S16x4096 .f32) (i : Fin 16) : k0_pay9 u (ix2 i (0 : Fin 1)) = ∑ t : Fin 4096, u (ix2 i t) := by
  unfold k0_pay9
  refine (shapeCast_a_a1_apply (a := 16) _ _ i 0).trans ?_
  refine (Ideal.multiReduction_add_single _ _ reduces_S16x4096_S16 _ _ (ix1 i)).trans ?_
  exact Finset.sum_congr rfl fun t _ => congrArg u (funext fun a => match a with | ⟨0, _⟩ => rfl | ⟨1, _⟩ => rfl)

theorem task_totals (a : Vec Ideal S32x4096 .f32) (i : Fin 32) : k0_pay29 a (ix2 i (0 : Fin 1)) = ∑ t : Fin 4096, a (ix2 i t) := by
  unfold k0_pay29
  refine (shapeCast_a_a1_apply (a := 32) _ _ i 0).trans ?_
  refine (Ideal.multiReduction_add_single _ _ reduces_S32x4096_S32 _ _ (ix1 i)).trans ?_
  exact Finset.sum_congr rfl fun t _ => congrArg a (funext fun a => match a with | ⟨0, _⟩ => rfl | ⟨1, _⟩ => rfl)

end Cert.KernelIdeal.Parts

end
-- ==== Proof.Points.lean ====
/- What one grid point computes, read at an element at the ideal values: a worker point's new ability is the old one plus the
   weighted sums over its edges, a task point's new type is the softmax of the old one plus the weighted sums over its edges. -/
module

public import proofs.«01_k».proof.Proof.Parts

@[expose] public section

set_option maxRecDepth 16384

noncomputable section

namespace Cert.KernelIdeal.Points

open Idealize.ShloMosaic hiding ix1 ix2 ix3
open Idealize.ShloMosaic.ValueIdx
open Cert.KernelIdeal Cert.KernelIdeal.Gen Cert.KernelIdeal.Blocks Cert.KernelIdeal.Parts Cert.Steps
open scoped BigOperators

/-- A worker point's block at an element. -/
theorem workBlock_apply (x : Vec Ideal S512x4096 .i32) (u : Vec Ideal S16x4096 .f32) (w : Vec Ideal S32x256 .f32)
    (a : Vec Ideal S32x512 .f32) (hl : ∀ c t, 0 ≤ (x (ix2 c t)).toInt ∧ (x (ix2 c t)).toInt < 16)
    (hu : ∀ k t, Finite (u (ix2 k t))) (i : Fin 32) (c : Fin 512) :
    workBlock x u w a (ix2 i c) = a (ix2 i c) + ∑ r : Fin 256, w (ix2 i r) *
      pick (fun t => x (ix2 c t)) (fun t => u (ix2 (⟨r.val % 16, Nat.mod_lt _ (by decide)⟩ : Fin 16) t)) (r.val / 16) := by
  unfold workBlock k0_pay3
  rw [shapeCast_self]
  refine congrArg (a (ix2 i c) + ·) ?_
  refine (Ideal.matmul_plain_apply none _ _ _ i c).trans ?_
  rw [show (constant S32x512 .f32 0x00000000#32 : FVec Ideal _ .f32) (ix2 i c) = 0 from Ideal.ofBits_zero_f32, zero_add]
  refine Finset.sum_congr rfl fun r _ => ?_
  rw [shapeCast_self, work_stack]
  refine congrArg (w (ix2 i r) * ·) ?_
  have hr : r.val / 16 < 16 := by have := r.isLt; omega
  refine (stack_apply (n := 16) (m := 256) (by decide) _ _ r c hr).trans ?_
  refine piece_apply (k0_pay7 x) (fun t => x (ix2 c t)) (k0_pay8 u) (k0_pay9 u) _ _ c (fun t => ?_) (hl c) (hu _) (work_totals u _) ⟨r.val / 16, hr⟩
  unfold k0_pay7
  exact transpose_ix2_apply (a := 512) (b := 4096) _ _ t c

/-- The logits a task point forms, at an element. -/
theorem logits_apply (x : Vec Ideal S4096x512 .i32) (a : Vec Ideal S32x4096 .f32) (w : Vec Ideal S16x512 .f32)
    (u : Vec Ideal S16x512 .f32) (hl : ∀ t c, 0 ≤ (x (ix2 t c)).toInt ∧ (x (ix2 t c)).toInt < 16)
    (ha : ∀ i t, Finite (a (ix2 i t))) (k : Fin 16) (c : Fin 512) (y : FVec Ideal S512x512 .f32)
    (hy : y = concatenate S512x512 0 (List.ofFn fun e : Fin 16 => (⟨⟨2, ![32, 512]⟩, piece (k0_pay27 x) (k0_pay28 a) (k0_pay29 a)
        broadcasts_S32x1_S32x512 e⟩ : (s : Shape) × (s.Idx → Ideal .f32)))
      concatenates_S32x512_S32x512_S32x512_S32x512_S32x512_S32x512_S32x512_S32x512_S32x512_S32x512_S32x512_S32x512_S32x512_S32x512_S32x512_S32x512_S512x512_d0) :
    addf u (matmul dot_S16x512_S512x512_S16x512_1_0_0_1_n_n none
        (shapeCast S16x512 w shapeCasts_S16x512_S16x512 : FVec Ideal S16x512 .f32) y (constant S16x512 .f32 0x00000000#32)) (ix2 k c)
      = u (ix2 k c) + ∑ r : Fin 512, w (ix2 k r) *
        pick (fun t => x (ix2 t c)) (fun t => a (ix2 (⟨r.val % 32, Nat.mod_lt _ (by decide)⟩ : Fin 32) t)) (r.val / 32) := by
  refine congrArg (u (ix2 k c) + ·) ?_
  refine (Ideal.matmul_plain_apply none _ _ _ k c).trans ?_
  rw [show (constant S16x512 .f32 0x00000000#32 : FVec Ideal _ .f32) (ix2 k c) = 0 from Ideal.ofBits_zero_f32, zero_add]
  refine Finset.sum_congr rfl fun r _ => ?_
  rw [shapeCast_self, hy]
  refine congrArg (w (ix2 k r) * ·) ?_
  have hr : r.val / 32 < 16 := by have := r.isLt; omega
  refine (stack_apply (n := 32) (m := 512) (by decide) _ _ r c hr).trans ?_
  exact piece_apply (k0_pay27 x) (fun t => x (ix2 t c)) (k0_pay28 a) (k0_pay29 a) _ _ c (fun t => rfl) (fun t => hl t c) (ha _)
    (task_totals a _) ⟨r.val / 32, hr⟩

/-- One row of 512 values repeated down the 16 rows. -/
theorem row_apply (v : FVec Ideal S512 .f32) (k : Fin 16) (c : Fin 512) :
    broadcastTo S16x512 (shapeCast S1x512 v shapeCasts_S512_S1x512) broadcasts_S1x512_S16x512 (ix2 k c) = v (ix1 c) :=
  (broadcastTo_apply _ _ (ix2 k c) (ix2 (0 : Fin 1) c) (fun b => match b with | ⟨0, _⟩ => rfl | ⟨1, _⟩ => rfl)).trans
    (shapeCast_a_1a_apply (a := 512) _ _ 0 c)

/-- The softmax down the columns of a `[16, 512]` array of logits, as the kernel computes it, at an element. -/
theorem softmax_apply (z : FVec Ideal S16x512 .f32) (k : Fin 16) (c : Fin 512) :
    divf (exp (subf z (broadcastTo S16x512 (shapeCast S1x512 (multiReduction .maximumf [0] S512 z 0xFF800000#32
        reduces_S16x512_S512 (.inl rfl) rfl) shapeCasts_S512_S1x512) broadcasts_S1x512_S16x512)))
      (broadcastTo S16x512 (shapeCast S1x512 (multiReduction .add [0] S512 (exp (subf z (broadcastTo S16x512 (shapeCast S1x512
        (multiReduction .maximumf [0] S512 z 0xFF800000#32 reduces_S16x512_S512 (.inl rfl) rfl) shapeCasts_S512_S1x512)
        broadcasts_S1x512_S16x512))) 0x00000000#32 reduces_S16x512_S512 (.inl rfl) rfl) shapeCasts_S512_S1x512)
        broadcasts_S1x512_S16x512) (ix2 k c)
      = softmax (fun k' => z (ix2 k' c)) k := by
  have hlift : ∀ k' : Fin 16, reduces_S16x512_S512.lift (ix1 c) k' = ix2 k' c := fun k' =>
    funext fun b => match b with | ⟨0, _⟩ => rfl | ⟨1, _⟩ => rfl
  have hmax : multiReduction .maximumf [0] S512 z 0xFF800000#32 reduces_S16x512_S512 (.inl rfl) rfl (ix1 c)
      = top fun k' => z (ix2 k' c) := by
    refine (Ideal.multiReduction_maximumf_single _ _ reduces_S16x512_S512 _ _ (ix1 c)).trans ?_
    rw [show (FloatOps.ofBits .f32 0xFF800000#32 : Ideal .f32) = ⊥ from by
      show Ideal.ofBits .f32 0xFF800000#32 = ⊥; simp [Ideal.ofBits, Ideal.ieee]]
    exact congrArg (fun f => (Finset.univ : Finset (Fin 16)).fold max ⊥ f) (funext fun k' => congrArg z (hlift k'))
  have hexp : ∀ k' : Fin 16, exp (subf z (broadcastTo S16x512 (shapeCast S1x512 (multiReduction .maximumf [0] S512 z 0xFF800000#32
        reduces_S16x512_S512 (.inl rfl) rfl) shapeCasts_S512_S1x512) broadcasts_S1x512_S16x512)) (ix2 k' c)
      = Ideal.exp (z (ix2 k' c) - top fun k' => z (ix2 k' c)) := fun k' => by
    exact congrArg (fun m => Ideal.exp (z (ix2 k' c) - m)) ((row_apply _ k' c).trans hmax)
  unfold softmax
  refine congrArg₂ Ideal.div (hexp k) ?_
  refine (row_apply _ k c).trans ?_
  refine (Ideal.multiReduction_add_single _ _ reduces_S16x512_S512 _ _ (ix1 c)).trans ?_
  exact Finset.sum_congr rfl fun k' _ => (congrArg _ (hlift k')).trans (hexp k')

/-- A task point's block at an element. -/
theorem taskBlock_apply (x : Vec Ideal S4096x512 .i32) (a : Vec Ideal S32x4096 .f32) (w : Vec Ideal S16x512 .f32)
    (u : Vec Ideal S16x512 .f32) (hl : ∀ t c, 0 ≤ (x (ix2 t c)).toInt ∧ (x (ix2 t c)).toInt < 16)
    (ha : ∀ i t, Finite (a (ix2 i t))) (k : Fin 16) (c : Fin 512) :
    taskBlock x a w u (ix2 k c) = softmax (fun k' => u (ix2 k' c) + ∑ r : Fin 512, w (ix2 k' r) *
      pick (fun t => x (ix2 t c)) (fun t => a (ix2 (⟨r.val % 32, Nat.mod_lt _ (by decide)⟩ : Fin 32) t)) (r.val / 32)) k := by
  unfold taskBlock k0_pay4
  refine (congrFun (shapeCast_self _ _) _).trans ((softmax_apply _ k c).trans ?_)
  exact congrArg (fun z => softmax z k) (funext fun k' => logits_apply x a w u hl ha k' c _ (task_stack x a))

end Cert.KernelIdeal.Points

end
-- ==== Proof.Windows.lean ====
/- What the kernel's windows hold at a grid point, element by element: the two blocks of labels, the whole arrays the first and the
   last point use, and the weights as the launch packs them. -/
module

public import proofs.«01_k».proof.Proof.Points

@[expose] public section

set_option maxRecDepth 16384

noncomputable section

namespace Cert.KernelIdeal.Windows

open Idealize.ShloMosaic hiding ix1 ix2 ix3
open Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The row block of labels a worker point reads, by the point. -/
theorem index_rows : ∀ t : Fin cfg0.N, win0_0.index t 0 = (if t.val / 8 % 2 = 0 then t.val % 8 else 7) ∧ win0_0.index t 1 = 0 :=
  (by decide +kernel : ∀ t : Fin grid0.N, _)

/-- The column block of labels a task point reads, by the point. -/
theorem index_cols : ∀ t : Fin cfg0.N, win0_1.index t 0 = 0 ∧ (t.val / 8 % 2 = 1 → win0_1.index t 1 = t.val % 8) :=
  (by decide +kernel : ∀ t : Fin grid0.N, _)

/-- The other six windows hold whole arrays. -/
theorem index_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, _)

/-- A worker point's labels. -/
theorem rows_apply (t : Fin cfg0.N) (h : t.val / 8 % 2 = 0) (p : Fin 512) (q : Fin 4096) :
    iblk m c 0 t (ix2 p q) = m ((c : Thread nD τ).loc main_arg6) (ix2 (⟨512 * (t.val % 8) + p.val, by omega⟩ : Fin 4096) q) := by
  obtain ⟨h0, h1⟩ := index_rows t
  rw [if_pos h] at h0
  unfold iblk
  rw [View.read_apply, ← V_main_arg6 m c]
  show V m c main_arg6 _ = _
  congr 1
  funext a
  apply Fin.ext
  match a with
  | ⟨0, _⟩ => show win0_0.index t 0 * 512 + 1 * p.val = 512 * (t.val % 8) + p.val; rw [h0]; omega
  | ⟨1, _⟩ => show win0_0.index t 1 * 4096 + 1 * q.val = q.val; rw [h1]; omega

/-- A task point's labels. -/
theorem cols_apply (t : Fin cfg0.N) (h : t.val / 8 % 2 = 1) (p : Fin 4096) (q : Fin 512) :
    iblk m c 1 t (ix2 p q) = m ((c : Thread nD τ).loc main_arg6) (ix2 p (⟨512 * (t.val % 8) + q.val, by omega⟩ : Fin 4096)) := by
  obtain ⟨h0, h1⟩ := index_cols t
  unfold iblk
  rw [View.read_apply, ← V_main_arg6 m c]
  show V m c main_arg6 _ = _
  congr 1
  funext a
  apply Fin.ext
  match a with
  | ⟨0, _⟩ => show win0_1.index t 0 * 4096 + 1 * p.val = p.val; rw [h0]; omega
  | ⟨1, _⟩ => show win0_1.index t 1 * 512 + 1 * q.val = 512 * (t.val % 8) + q.val; rw [h1 h]; omega

/-- The abilities as given. -/
theorem abilities_eq (t : Fin cfg0.N) : iblk m c 2 t = m ((c : Thread nD τ).loc main_arg0) := by
  obtain ⟨⟨h0, h1⟩, _⟩ := index_whole t
  funext j
  unfold iblk
  rw [View.read_apply, ← V_main_arg0 m c]
  show V m c main_arg0 _ = _
  congr 1
  funext a
  apply Fin.ext
  match a with
  | ⟨0, _⟩ => show win0_2.index t 0 * 4096 + 1 * (j 0).val = (j 0).val; rw [h0]; omega
  | ⟨1, _⟩ => show win0_2.index t 1 * 32 + 1 * (j 1).val = (j 1).val; rw [h1]; omega

/-- The task types as given. -/
theorem types_eq (t : Fin cfg0.N) : iblk m c 3 t = m ((c : Thread nD τ).loc main_arg1) := by
  obtain ⟨_, ⟨h0, h1⟩, _⟩ := index_whole t
  funext j
  unfold iblk
  rw [View.read_apply, ← V_main_arg1 m c]
  show V m c main_arg1 _ = _
  congr 1
  funext a
  apply Fin.ext
  match a with
  | ⟨0, _⟩ => show win0_3.index t 0 * 4096 + 1 * (j 0).val = (j 0).val; rw [h0]; omega
  | ⟨1, _⟩ => show win0_3.index t 1 * 16 + 1 * (j 1).val = (j 1).val; rw [h1]; omega

/-- The abilities' padding. -/
theorem padding_a_eq (t : Fin cfg0.N) : iblk m c 4 t = m ((c : Thread nD τ).loc main_arg2) := by
  obtain ⟨_, _, ⟨h0, h1⟩, _⟩ := index_whole t
  funext j
  unfold iblk
  rw [View.read_apply, ← V_main_arg2 m c]
  show V m c main_arg2 _ = _
  congr 1
  funext a
  apply Fin.ext
  match a with
  | ⟨0, _⟩ => show win0_4.index t 0 * 4096 + 1 * (j 0).val = (j 0).val; rw [h0]; omega
  | ⟨1, _⟩ => show win0_4.index t 1 * 16 + 1 * (j 1).val = (j 1).val; rw [h1]; omega

/-- The task types' padding. -/
theorem padding_t_eq (t : Fin cfg0.N) : iblk m c 5 t = m ((c : Thread nD τ).loc main_arg3) := by
  obtain ⟨_, _, _, ⟨h0, h1⟩, _⟩ := index_whole t
  funext j
  unfold iblk
  rw [View.read_apply, ← V_main_arg3 m c]
  show V m c main_arg3 _ = _
  congr 1
  funext a
  apply Fin.ext
  match a with
  | ⟨0, _⟩ => show win0_5.index t 0 * 4096 + 1 * (j 0).val = (j 0).val; rw [h0]; omega
  | ⟨1, _⟩ => show win0_5.index t 1 * 32 + 1 * (j 1).val = (j 1).val; rw [h1]; omega

/-- The packed weights of the ability update, as the launch leaves them. -/
theorem V_main_v1 : V m c main_v1 = shapeCast S32x256 (transpose S32x16x16 [2, 0, 1] (m ((c : Thread nD τ).loc main_arg5))
    transposes_S16x16x32_S32x16x16_2_0_1) shapeCasts_S32x16x16_S32x256 := by
  rfl

/-- The packed weights of the task update, as the launch leaves them. -/
theorem V_main_v3 : V m c main_v3 = shapeCast S16x512 (transpose S16x16x32 [2, 0, 1] (m ((c : Thread nD τ).loc main_arg4))
    transposes_S16x32x16_S16x16x32_2_0_1) shapeCasts_S16x16x32_S16x512 := by
  rfl

/-- The ability weights: entry `(a, r)` is that of edge type `r / 16`, task type `r % 16`, ability `a`. -/
theorem weights_a_apply (t : Fin cfg0.N) (a : Fin 32) (r : Fin 256) :
    iblk m c 6 t (ix2 a r) = m ((c : Thread nD τ).loc main_arg5)
      (ix3 (⟨r.val / 16, by omega⟩ : Fin 16) (⟨r.val % 16, Nat.mod_lt _ (by decide)⟩ : Fin 16) a) := by
  obtain ⟨_, _, _, _, ⟨h0, h1⟩, _⟩ := index_whole t
  have hV : iblk m c 6 t (ix2 a r) = V m c main_v1 (ix2 a r) := by
    unfold iblk
    rw [View.read_apply]
    show V m c main_v1 _ = _
    congr 1
    funext b
    apply Fin.ext
    match b with
    | ⟨0, _⟩ => show win0_6.index t 0 * 32 + 1 * a.val = a.val; rw [h0]; omega
    | ⟨1, _⟩ => show win0_6.index t 1 * 256 + 1 * r.val = r.val; rw [h1]; omega
  rw [hV, V_main_v1]
  refine (shapeCast_apply _ _ (ix2 a r) (ix3 a (⟨r.val / 16, by omega⟩ : Fin 16) (⟨r.val % 16, Nat.mod_lt _ (by decide)⟩ : Fin 16)) ?_).trans ?_
  · rw [Shape.rowMajor_val_three, Shape.rowMajor_val_two]
    show (a.val * 16 + r.val / 16) * 16 + r.val % 16 = a.val * 256 + r.val
    omega
  · exact transpose_apply _ _ _ _ _ fun b => match b with | ⟨0, _⟩ => rfl | ⟨1, _⟩ => rfl | ⟨2, _⟩ => rfl

/-- The task weights: entry `(k, r)` is that of edge type `r / 32`, ability `r % 32`, task type `k`. -/
theorem weights_t_apply (t : Fin cfg0.N) (k : Fin 16) (r : Fin 512) :
    iblk m c 7 t (ix2 k r) = m ((c : Thread nD τ).loc main_arg4)
      (ix3 (⟨r.val / 32, by omega⟩ : Fin 16) (⟨r.val % 32, Nat.mod_lt _ (by decide)⟩ : Fin 32) k) := by
  obtain ⟨_, _, _, _, _, h0, h1⟩ := index_whole t
  have hV : iblk m c 7 t (ix2 k r) = V m c main_v3 (ix2 k r) := by
    unfold iblk
    rw [View.read_apply]
    show V m c main_v3 _ = _
    congr 1
    funext b
    apply Fin.ext
    match b with
    | ⟨0, _⟩ => show win0_7.index t 0 * 16 + 1 * k.val = k.val; rw [h0]; omega
    | ⟨1, _⟩ => show win0_7.index t 1 * 512 + 1 * r.val = r.val; rw [h1]; omega
  rw [hV, V_main_v3]
  refine (shapeCast_apply _ _ (ix2 k r) (ix3 k (⟨r.val / 32, by omega⟩ : Fin 16) (⟨r.val % 32, Nat.mod_lt _ (by decide)⟩ : Fin 32)) ?_).trans ?_
  · rw [Shape.rowMajor_val_three, Shape.rowMajor_val_two]
    show (k.val * 16 + r.val / 32) * 32 + r.val % 32 = k.val * 512 + r.val
    omega
  · exact transpose_apply _ _ _ _ _ fun b => match b with | ⟨0, _⟩ => rfl | ⟨1, _⟩ => rfl | ⟨2, _⟩ => rfl

end Cert.KernelIdeal.Windows

end
-- ==== Proof.Graph.lean ====
/- The two updates of the whole graph: the abilities and the task types after `k` updates, from the arrays the program is given. -/
module

public import proofs.«01_k».proof.Proof.Steps
public import Idealize.ShloMosaic.Lib.ValueIdxCore

@[expose] public section

noncomputable section

namespace Cert.Steps

open Idealize.ShloMosaic
open Idealize.ShloMosaic.ValueIdx

/-- The graph: the labels of the edges by worker and task, the weights of the two updates, and the first abilities and types. -/
structure Graph where
  label : Fin 4096 → Fin 4096 → BitVec 32
  wa : Fin 32 → Fin 256 → EReal
  wt : Fin 16 → Fin 512 → EReal
  ability₀ : Fin 32 → Fin 4096 → EReal
  type₀ : Fin 16 → Fin 4096 → EReal

/-- The labels are edge types and the numbers are finite. -/
structure Graph.Ok (g : Graph) : Prop where
  label : ∀ w t, 0 ≤ (g.label w t).toInt ∧ (g.label w t).toInt < 16
  wa : ∀ a r, Finite (g.wa a r)
  wt : ∀ k r, Finite (g.wt k r)
  ability₀ : ∀ a w, Finite (g.ability₀ a w)
  type₀ : ∀ k t, Finite (g.type₀ k t)

/-- The abilities and the task types after `n` updates; an update renews the abilities first and the types from the new abilities. -/
def Graph.after (g : Graph) : ℕ → (Fin 32 → Fin 4096 → EReal) × (Fin 16 → Fin 4096 → EReal)
  | 0 => (g.ability₀, g.type₀)
  | n + 1 => (newAbility g.label g.wa (g.after n).1 (g.after n).2,
      newType g.label g.wt (newAbility g.label g.wa (g.after n).1 (g.after n).2) (g.after n).2)

/-- The abilities after `n` updates. -/
def Graph.ability (g : Graph) (n : ℕ) : Fin 32 → Fin 4096 → EReal := (g.after n).1

/-- The task types after `n` updates. -/
def Graph.type (g : Graph) (n : ℕ) : Fin 16 → Fin 4096 → EReal := (g.after n).2

theorem Graph.ability_succ (g : Graph) (n : ℕ) : g.ability (n + 1) = newAbility g.label g.wa (g.ability n) (g.type n) := rfl

theorem Graph.type_succ (g : Graph) (n : ℕ) : g.type (n + 1) = newType g.label g.wt (g.ability (n + 1)) (g.type n) := rfl

/-- They stay finite. -/
theorem Graph.Ok.finite {g : Graph} (h : g.Ok) (n : ℕ) : (∀ a w, Finite (g.ability n a w)) ∧ ∀ k t, Finite (g.type n k t) := by
  induction n with
  | zero => exact ⟨h.ability₀, h.type₀⟩
  | succ n ih =>
    have ha : ∀ a w, Finite (g.ability (n + 1) a w) := fun a w => finite_newAbility h.wa ih.1 ih.2 a w
    exact ⟨ha, fun k t => finite_newType h.wt ha ih.2 k t⟩

/-- The graph of the arrays the program is given: abilities `[4096, 32]` by worker, types `[4096, 16]` by task, the weights of the
    task update `[16, 32, 16]` and of the ability update `[16, 16, 32]` by edge type, and the labels `[4096, 4096]`. -/
def graphOf (fa : (⟨2, ![4096, 32]⟩ : Shape).Idx → EReal) (ft : (⟨2, ![4096, 16]⟩ : Shape).Idx → EReal)
    (wt : (⟨3, ![16, 32, 16]⟩ : Shape).Idx → EReal) (wa : (⟨3, ![16, 16, 32]⟩ : Shape).Idx → EReal)
    (x : (⟨2, ![4096, 4096]⟩ : Shape).Idx → BitVec 32) : Graph where
  label w t := x (ix2 w t)
  wa a r := wa (ix3 (⟨r.val / 16, by omega⟩ : Fin 16) (⟨r.val % 16, Nat.mod_lt _ (by decide)⟩ : Fin 16) a)
  wt k r := wt (ix3 (⟨r.val / 32, by omega⟩ : Fin 16) (⟨r.val % 32, Nat.mod_lt _ (by decide)⟩ : Fin 32) k)
  ability₀ a w := fa (ix2 w a)
  type₀ k t := ft (ix2 t k)

/-- Labels among the edge types and finite arrays make the graph one. -/
theorem graphOf_ok {fa : (⟨2, ![4096, 32]⟩ : Shape).Idx → EReal} {ft : (⟨2, ![4096, 16]⟩ : Shape).Idx → EReal}
    {wt : (⟨3, ![16, 32, 16]⟩ : Shape).Idx → EReal} {wa : (⟨3, ![16, 16, 32]⟩ : Shape).Idx → EReal}
    {x : (⟨2, ![4096, 4096]⟩ : Shape).Idx → BitVec 32} (hx : ∀ i, 0 ≤ (x i).toInt ∧ (x i).toInt < 16)
    (hfa : ∀ i, Finite (fa i)) (hft : ∀ i, Finite (ft i)) (hwt : ∀ i, Finite (wt i)) (hwa : ∀ i, Finite (wa i)) :
    (graphOf fa ft wt wa x).Ok :=
  ⟨fun _ _ => hx _, fun _ _ => hwa _, fun _ _ => hwt _, fun _ _ => hfa _, fun _ _ => hft _⟩

/-- The program's result: the abilities after two updates beside their padding, over the types after two updates beside theirs. -/
def Graph.result (g : Graph) (pa : (⟨2, ![4096, 16]⟩ : Shape).Idx → EReal) (pt : (⟨2, ![4096, 32]⟩ : Shape).Idx → EReal) :
    (⟨2, ![8192, 48]⟩ : Shape).Idx → EReal := fun j =>
  if h : (j 0).val < 4096 then
    if h' : (j 1).val < 32 then g.ability 2 ⟨(j 1).val, h'⟩ ⟨(j 0).val, h⟩
    else pa (ix2 (⟨(j 0).val, h⟩ : Fin 4096) (⟨(j 1).val - 32, by have : (j 1).val < 48 := (j 1).isLt; omega⟩ : Fin 16))
  else
    if h' : (j 1).val < 16 then g.type 2 ⟨(j 1).val, h'⟩ ⟨(j 0).val - 4096, by have : (j 0).val < 8192 := (j 0).isLt; omega⟩
    else pt (ix2 (⟨(j 0).val - 4096, by have : (j 0).val < 8192 := (j 0).isLt; omega⟩ : Fin 4096)
      (⟨(j 1).val - 16, by have : (j 1).val < 48 := (j 1).isLt; omega⟩ : Fin 32))

end Cert.Steps

end
-- ==== Proof.Carried.lean ====
/- What the two arrays the kernel carries hold before each grid point. Points 0–7 and 16–23 renew the abilities, 512 workers at a
   time, from the task types of the update before; points 8–15 and 24–31 renew the task types, 512 tasks at a time, from the new
   abilities. -/
module

public import proofs.«01_k».proof.Proof.Windows
public import proofs.«01_k».proof.Proof.Graph

@[expose] public section

set_option maxRecDepth 16384

noncomputable section

namespace Cert.KernelIdeal.Carried

open Idealize.ShloMosaic hiding ix1 ix2 ix3
open Idealize.ShloMosaic.ValueIdx Idealize.ShloMosaic.TcCoe Idealize.SL.Sem
open Cert.KernelIdeal Cert.KernelIdeal.Gen Cert.KernelIdeal.Blocks Cert.KernelIdeal.Points Cert.KernelIdeal.Windows Cert.Steps

/-- What the carried arrays hold before point `n`: in a worker pass the columns the pass has done are new and the types are as they
    were, in a task pass the abilities are new and the columns the pass has done are new. -/
def Before (g : Graph) (n : ℕ) (at_ : Vec Ideal S32x4096 .f32) (ut : Vec Ideal S16x4096 .f32) : Prop :=
  ∀ k, (n / 8 = 2 * k → (∀ a w, at_ (ix2 a w) = if w.val < 512 * (n % 8) then g.ability (k + 1) a w else g.ability k a w)
      ∧ ∀ e t, ut (ix2 e t) = g.type k e t)
    ∧ (n / 8 = 2 * k + 1 → (∀ a w, at_ (ix2 a w) = g.ability (k + 1) a w)
      ∧ ∀ e t, ut (ix2 e t) = if t.val < 512 * (n % 8) then g.type (k + 1) e t else g.type k e t)

/-- A worker point takes what holds before it to what holds before the next point. -/
theorem worker_step {g : Graph} (hg : g.Ok) {n k : ℕ} (hk : n / 8 = 2 * k) (b : Fin 8) (hb : b.val = n % 8)
    {at_ at' : Vec Ideal S32x4096 .f32} {ut : Vec Ideal S16x4096 .f32} (h : Before g n at_ ut)
    {x : Vec Ideal S512x4096 .i32} {wa : Vec Ideal S32x256 .f32}
    (hx : ∀ (p : Fin 512) (t : Fin 4096), x (ix2 p t) = g.label ⟨512 * b.val + p.val, by omega⟩ t)
    (hw : ∀ a r, wa (ix2 a r) = g.wa a r)
    (hit : ∀ (p : S32x512.Idx) (j : S32x4096.Idx), (j 0).val = (p 0).val → (j 1).val = 512 * b.val + (p 1).val →
      at' j = workBlock x ut wa (cols (e := .f32) (n := 32) b at_) p)
    (miss : ∀ j : S32x4096.Idx, (j 1).val < 512 * b.val ∨ 512 * b.val + 512 ≤ (j 1).val → at' j = at_ j) :
    Before g (n + 1) at' ut := by
  obtain ⟨hA, hU⟩ := (h k).1 hk
  have hut : ∀ e : Fin 16, (fun t => ut (ix2 e t)) = g.type k e := fun e => funext (hU e)
  have key : ∀ a w, at' (ix2 a w) = if w.val < 512 * (b.val + 1) then g.ability (k + 1) a w else g.ability k a w := by
    intro a w
    by_cases hin : 512 * b.val ≤ w.val ∧ w.val < 512 * b.val + 512
    · have hc : w.val - 512 * b.val < 512 := by omega
      have hwc : (⟨512 * b.val + (w.val - 512 * b.val), by omega⟩ : Fin 4096) = w := Fin.ext (by show 512 * b.val + (w.val - 512 * b.val) = w.val; omega)
      rw [if_pos (by omega), hit (ix2 a (⟨w.val - 512 * b.val, hc⟩ : Fin 512)) (ix2 a w) rfl
        (by show w.val = 512 * b.val + (w.val - 512 * b.val); omega)]
      rw [workBlock_apply x ut wa _ (fun p t => by rw [hx]; exact hg.label _ _) (fun e t => by rw [hU]; exact (hg.finite k).2 e t)]
      have h1 : cols (e := .f32) (n := 32) b at_ (ix2 a (⟨w.val - 512 * b.val, hc⟩ : Fin 512)) = g.ability k a w := by
        refine (congrArg at_ (show _ = ix2 a w from funext fun d => ?_)).trans ((hA a w).trans (if_neg (by omega)))
        match d with
        | ⟨0, _⟩ => rfl
        | ⟨1, _⟩ => exact hwc
      have h2 : (fun t => x (ix2 (⟨w.val - 512 * b.val, hc⟩ : Fin 512) t)) = g.label w :=
        funext fun t => (hx _ t).trans (congrArg (fun w' => g.label w' t) hwc)
      rw [h1, h2, Graph.ability_succ]
      refine congrArg (g.ability k a w + ·) (Finset.sum_congr rfl fun r _ => ?_)
      rw [hw, hut]
    · rw [miss (ix2 a w) (by show w.val < _ ∨ _ ≤ w.val; omega), hA, ← hb]
      by_cases hlt : w.val < 512 * b.val
      · rw [if_pos hlt, if_pos (by omega)]
      · rw [if_neg hlt, if_neg (by omega)]
  intro k'
  constructor
  · intro hk'
    have hkk : k' = k := by omega
    subst hkk
    refine ⟨fun a w => ?_, hU⟩
    rw [key, show (n + 1) % 8 = b.val + 1 by omega]
  · intro hk'
    have hkk : k' = k := by omega
    subst hkk
    refine ⟨fun a w => (key a w).trans (if_pos (by omega)), fun e t => (hU e t).trans (if_neg (by omega)).symm⟩

/-- A task point takes what holds before it to what holds before the next point. -/
theorem task_step {g : Graph} (hg : g.Ok) {n k : ℕ} (hk : n / 8 = 2 * k + 1) (b : Fin 8) (hb : b.val = n % 8)
    {at_ : Vec Ideal S32x4096 .f32} {ut ut' : Vec Ideal S16x4096 .f32} (h : Before g n at_ ut)
    {x : Vec Ideal S4096x512 .i32} {wt : Vec Ideal S16x512 .f32}
    (hx : ∀ (w : Fin 4096) (p : Fin 512), x (ix2 w p) = g.label w ⟨512 * b.val + p.val, by omega⟩)
    (hw : ∀ e r, wt (ix2 e r) = g.wt e r)
    (hit : ∀ (p : S16x512.Idx) (j : S16x4096.Idx), (j 0).val = (p 0).val → (j 1).val = 512 * b.val + (p 1).val →
      ut' j = taskBlock x at_ wt (cols (e := .f32) (n := 16) b ut) p)
    (miss : ∀ j : S16x4096.Idx, (j 1).val < 512 * b.val ∨ 512 * b.val + 512 ≤ (j 1).val → ut' j = ut j) :
    Before g (n + 1) at_ ut' := by
  obtain ⟨hA, hU⟩ := (h k).2 hk
  have hat : ∀ a : Fin 32, (fun w => at_ (ix2 a w)) = g.ability (k + 1) a := fun a => funext (hA a)
  have key : ∀ e t, ut' (ix2 e t) = if t.val < 512 * (b.val + 1) then g.type (k + 1) e t else g.type k e t := by
    intro e t
    by_cases hin : 512 * b.val ≤ t.val ∧ t.val < 512 * b.val + 512
    · have hc : t.val - 512 * b.val < 512 := by omega
      have htc : (⟨512 * b.val + (t.val - 512 * b.val), by omega⟩ : Fin 4096) = t := Fin.ext (by show 512 * b.val + (t.val - 512 * b.val) = t.val; omega)
      rw [if_pos (by omega), hit (ix2 e (⟨t.val - 512 * b.val, hc⟩ : Fin 512)) (ix2 e t) rfl
        (by show t.val = 512 * b.val + (t.val - 512 * b.val); omega)]
      rw [taskBlock_apply x at_ wt _ (fun w p => by rw [hx]; exact hg.label _ _) (fun a w => by rw [hA]; exact (hg.finite (k + 1)).1 a w)]
      have h1 : ∀ e' : Fin 16, cols (e := .f32) (n := 16) b ut (ix2 e' (⟨t.val - 512 * b.val, hc⟩ : Fin 512)) = g.type k e' t := by
        intro e'
        refine (congrArg ut (show _ = ix2 e' t from funext fun d => ?_)).trans ((hU e' t).trans (if_neg (by omega)))
        match d with
        | ⟨0, _⟩ => rfl
        | ⟨1, _⟩ => exact htc
      have h2 : (fun w => x (ix2 w (⟨t.val - 512 * b.val, hc⟩ : Fin 512))) = fun w => g.label w t :=
        funext fun w => (hx w _).trans (congrArg (g.label w) htc)
      rw [Graph.type_succ]
      refine congrArg (fun z => softmax z e) (funext fun e' => ?_)
      rw [h1, h2]
      refine congrArg (g.type k e' t + ·) (Finset.sum_congr rfl fun r _ => ?_)
      rw [hw, hat]
    · rw [miss (ix2 e t) (by show t.val < _ ∨ _ ≤ t.val; omega), hU, ← hb]
      by_cases hlt : t.val < 512 * b.val
      · rw [if_pos hlt, if_pos (by omega)]
      · rw [if_neg hlt, if_neg (by omega)]
  intro k'
  constructor
  · intro hk'
    have hkk : k' = k + 1 := by omega
    subst hkk
    exact ⟨fun a w => (hA a w).trans (if_neg (by omega)).symm, fun e t => (key e t).trans (if_pos (by omega))⟩
  · intro hk'
    have hkk : k' = k := by omega
    subst hkk
    refine ⟨hA, fun e t => ?_⟩
    rw [key, show (n + 1) % 8 = b.val + 1 by omega]

variable (m : (ℓ : Loc nD τ sig) → Buf (Elt Ideal) ℓ) (c : Dev nD)

/-- The graph of the arrays in memory. -/
def graph : Graph := graphOf (m ((c : Thread nD τ).loc main_arg0)) (m ((c : Thread nD τ).loc main_arg1))
  (m ((c : Thread nD τ).loc main_arg4)) (m ((c : Thread nD τ).loc main_arg5)) (m ((c : Thread nD τ).loc main_arg6))

/-- The block of rows or columns a point works on. -/
theorem coords_one : ∀ t : Fin cfg0.N, ((grid0.coords t) 1).val = t.val % 8 := (by decide +kernel : ∀ t : Fin grid0.N, _)

/-- The labels a worker point reads are the graph's. -/
theorem rows_label (t : Fin cfg0.N) (h : t.val / 8 % 2 = 0) (b : Fin 8) (hb : b.val = t.val % 8) (p : Fin 512) (q : Fin 4096) :
    iblk m c 0 t (ix2 p q) = (graph m c).label ⟨512 * b.val + p.val, by omega⟩ q := by
  rw [rows_apply m c t h p q]
  exact congrArg (fun w => m ((c : Thread nD τ).loc main_arg6) (ix2 w q)) (Fin.ext (by show _ = 512 * b.val + p.val; rw [hb]))

/-- The labels a task point reads are the graph's. -/
theorem cols_label (t : Fin cfg0.N) (h : t.val / 8 % 2 = 1) (b : Fin 8) (hb : b.val = t.val % 8) (p : Fin 4096) (q : Fin 512) :
    iblk m c 1 t (ix2 p q) = (graph m c).label p ⟨512 * b.val + q.val, by omega⟩ := by
  rw [cols_apply m c t h p q]
  exact congrArg (fun w => m ((c : Thread nD τ).loc main_arg6) (ix2 p w)) (Fin.ext (by show _ = 512 * b.val + q.val; rw [hb]))

/-- The first point fills the carried arrays with the given ones, transposed. -/
theorem before_first (t : Fin cfg0.N) : Before (graph m c) 0 (k0_pay1 (iblk m c 2 t)) (k0_pay2 (iblk m c 3 t)) := by
  intro k
  refine ⟨fun hk => ?_, fun hk => absurd hk (by omega)⟩
  obtain rfl : k = 0 := by omega
  rw [abilities_eq, types_eq]
  unfold k0_pay1 k0_pay2
  constructor
  · intro a w
    rw [if_neg (by omega)]
    exact (congrFun (shapeCast_self _ _) _).trans (transpose_ix2_apply (a := 4096) (b := 32) _ _ a w)
  · intro e t
    exact (congrFun (shapeCast_self _ _) _).trans (transpose_ix2_apply (a := 4096) (b := 16) _ _ e t)

/-- What the carried arrays hold after every point. -/
theorem carried (hg : (graph m c).Ok) : ∀ (n : ℕ) (hn : n < cfg0.N),
    Before (graph m c) (n + 1) (outsAt0 m c n hn).2.1 (outsAt0 m c n hn).2.2
  | 0, hn => by
    have e := outsAt0_A m c ⟨0, hn⟩ rfl (Or.inl rfl) (by dsimp only; omega) (by dsimp only; omega)
    change outsAt0 m c 0 hn = _ at e
    rw [e]
    dsimp only
    rw [first_types]
    refine worker_step hg (n := 0) (k := 0) rfl ((grid0.coords ⟨0, hn⟩) 1) (coords_one ⟨0, hn⟩) (before_first m c ⟨0, hn⟩)
      (rows_label m c ⟨0, hn⟩ (by dsimp only) _ (coords_one ⟨0, hn⟩)) (weights_a_apply m c ⟨0, hn⟩) (fun p j h0 h1 => ?_) (fun j h1 => ?_)
    · exact first_hit (h0 := h0) (h1 := h1) ..
    · exact first_miss (h1 := h1) ..
  | n + 1, hn => by
    have hN : n + 1 < 32 := lt_of_lt_of_eq hn N_0
    have ih := carried hg n (Nat.lt_of_succ_lt hn)
    have hb := coords_one ⟨n + 1, hn⟩
    have h0 : ¬(n + 1) % 32 = 0 := by omega
    by_cases h1 : (n + 1) / 8 % 2 = 0
    · have e := outsAt0_B m c ⟨n + 1, hn⟩ h0 (by dsimp only; omega) (by dsimp only; omega) (by dsimp only; omega)
      change outsAt0 m c (n + 1) hn = _ at e
      rw [e]
      dsimp only
      refine worker_step hg (n := n + 1) (k := (n + 1) / 16) (by omega) ((grid0.coords ⟨n + 1, hn⟩) 1) hb ih
        (rows_label m c ⟨n + 1, hn⟩ h1 _ hb) (weights_a_apply m c ⟨n + 1, hn⟩) (fun p j h0 h1 => ?_) (fun j h1 => ?_)
      · exact worker_hit (h0 := h0) (h1 := h1) ..
      · exact worker_miss (h1 := h1) ..
    · by_cases h3 : (n + 1) % 32 = 31
      · have e := outsAt0_D m c ⟨n + 1, hn⟩ h0 (by dsimp only; omega) (by dsimp only; omega) h3
        change outsAt0 m c (n + 1) hn = _ at e
        rw [e]
        dsimp only
        refine task_step hg (n := n + 1) (k := (n + 1) / 16) (by omega) ((grid0.coords ⟨n + 1, hn⟩) 1) hb ih
          (cols_label m c ⟨n + 1, hn⟩ (by dsimp only; omega) _ hb) (weights_t_apply m c ⟨n + 1, hn⟩) (fun p j h0 h1 => ?_) (fun j h1 => ?_)
        · exact last_hit (h0 := h0) (h1 := h1) ..
        · exact last_miss (h1 := h1) ..
      · have e := outsAt0_C m c ⟨n + 1, hn⟩ h0 (by dsimp only; omega) (by dsimp only; omega) h3
        change outsAt0 m c (n + 1) hn = _ at e
        rw [e]
        dsimp only
        refine task_step hg (n := n + 1) (k := (n + 1) / 16) (by omega) ((grid0.coords ⟨n + 1, hn⟩) 1) hb ih
          (cols_label m c ⟨n + 1, hn⟩ (by dsimp only; omega) _ hb) (weights_t_apply m c ⟨n + 1, hn⟩) (fun p j h0 h1 => ?_) (fun j h1 => ?_)
        · exact task_hit (h0 := h0) (h1 := h1) ..
        · exact task_miss (h1 := h1) ..

end Cert.KernelIdeal.Carried

end
-- ==== Proof.Result.lean ====
/- The kernel's result array: the abilities and the task types after two updates, each beside its padding. -/
module

public import proofs.«01_k».proof.Proof.Carried
public import proofs.«01_k».proof.Proof.Gen.KernelIdeal.Value

@[expose] public section

set_option maxRecDepth 16384

noncomputable section

namespace Cert.KernelIdeal.Result

open Idealize.ShloMosaic hiding ix1 ix2 ix3
open Idealize.ShloMosaic.ValueIdx Idealize.ShloMosaic.TcCoe Idealize.SL.Sem
open Cert.KernelIdeal Cert.KernelIdeal.Gen Cert.KernelIdeal.Blocks Cert.KernelIdeal.Windows Cert.KernelIdeal.Carried Cert.Steps

variable (m : (ℓ : Loc nD τ sig) → Buf (Elt Ideal) ℓ) (c : Dev nD)

variable (t : Fin cfg0.N) (ht : t.val = 31)
include ht

/-- After the last point both carried arrays are two updates on. -/
theorem carried_last (hg : (graph m c).Ok) :
    (∀ a w, (outsAt0 m c t.val t.isLt).2.1 (ix2 a w) = (graph m c).ability 2 a w)
    ∧ ∀ e i, (outsAt0 m c t.val t.isLt).2.2 (ix2 e i) = (graph m c).type 2 e i := by
  obtain ⟨h1, h2⟩ := (carried m c hg t.val t.isLt 2).1 (by omega)
  exact ⟨fun a w => (h1 a w).trans (if_neg (by omega)), h2⟩

/-- The array the last point leaves. -/
theorem out_last (hg : (graph m c).Ok) : (outsAt0 m c t.val t.isLt).1
    = (graph m c).result (m ((c : Thread nD τ).loc main_arg2)) (m ((c : Thread nD τ).loc main_arg3)) := by
  obtain ⟨hA, hU⟩ := carried_last m c t ht hg
  have e := outsAt0_D m c t (by omega) (by omega) (by omega) (by omega)
  rw [e] at hA hU
  rw [e]
  dsimp only at hA hU ⊢
  funext j
  have hj0 : (j 0).val < 8192 := (j 0).isLt
  have hj1 : (j 1).val < 48 := (j 1).isLt
  unfold Graph.result
  by_cases h : (j 0).val < 4096
  · rw [dif_pos h]
    by_cases h' : (j 1).val < 32
    · rw [dif_pos h']
      refine (result_up_left (p := ix2 (⟨(j 0).val, h⟩ : Fin 4096) (⟨(j 1).val, h'⟩ : Fin 32)) (h0 := (Nat.zero_add _).symm)
        (h1 := (Nat.zero_add _).symm) ..).trans ?_
      unfold k0_pay5
      exact (transpose_ix2_apply (a := 32) (b := 4096) _ _ _ _).trans (hA _ _)
    · rw [dif_neg h']
      refine (result_up_right (p := ix2 (⟨(j 0).val, h⟩ : Fin 4096) (⟨(j 1).val - 32, by omega⟩ : Fin 16)) (h0 := (Nat.zero_add _).symm)
        (h1 := by show (j 1).val = 32 + ((j 1).val - 32); omega) ..).trans ?_
      exact congrFun (padding_a_eq m c t) _
  · rw [dif_neg h]
    by_cases h' : (j 1).val < 16
    · rw [dif_pos h']
      refine (result_low_left (p := ix2 (⟨(j 0).val - 4096, by omega⟩ : Fin 4096) (⟨(j 1).val, h'⟩ : Fin 16))
        (h0 := by show (j 0).val = 4096 + ((j 0).val - 4096); omega) (h1 := (Nat.zero_add _).symm) ..).trans ?_
      unfold k0_pay6
      exact (transpose_ix2_apply (a := 16) (b := 4096) _ _ _ _).trans (hU _ _)
    · rw [dif_neg h']
      refine (result_low_right (p := ix2 (⟨(j 0).val - 4096, by omega⟩ : Fin 4096) (⟨(j 1).val - 16, by omega⟩ : Fin 32))
        (h0 := by show (j 0).val = 4096 + ((j 0).val - 4096); omega) (h1 := by show (j 1).val = 16 + ((j 1).val - 16); omega) ..).trans ?_
      exact congrFun (padding_t_eq m c t) _

omit ht in
/-- The kernel's result is the graph's. -/
theorem kernel_result (hg : (graph m c).Ok) : Value.G8 m c
    = (graph m c).result (m ((c : Thread nD τ).loc main_arg2)) (m ((c : Thread nD τ).loc main_arg3)) := by
  rw [Value.G8_last, ← out_last m c ⟨31, lt_of_lt_of_eq (by decide) N_0.symm⟩ rfl hg, Value.outsAt0_sweep]

end Cert.KernelIdeal.Result

end
-- ==== Proof.Factors.lean ====
/- The factors the reference scales by. Every label is an edge type, so every worker has 4096 tasks, the factor of each worker is
   4096 / 4096 = 1, and so are the products of these factors. -/
module

public import proofs.«01_k».proof.Proof.Graph
public import proofs.«01_k».proof.Proof.Gen.ReferenceIdeal.Run
public import Idealize.ShloMosaic.Lib.IdealHost
public import Idealize.ShloMosaic.Lib.Pipeline.ValueKit
public import Idealize.ShloMosaic.Lib.Pointwise.SelectCore
public import Idealize.ShloMosaic.Lib.Affine
public import Idealize.ShloMosaic.Lib.WordArith

@[expose] public section

set_option maxRecDepth 16384

noncomputable section

namespace Cert.ReferenceIdeal.Factors

open Idealize.ShloMosaic hiding ix1 ix2 ix3
open Idealize.ShloMosaic.ValueIdx Idealize.ShloMosaic.TcCoe Idealize.SL.Sem
open Cert.ReferenceIdeal Cert.ReferenceIdeal.Gen Cert.ReferenceIdeal.Value Cert.Steps

/-- The word of the number one. -/
theorem one_f32 : Ideal.ofBits .f32 0x3F800000#32 = 1 := by
  simp [Ideal.ofBits, Ideal.ieee, -EReal.coe_mul]; norm_num

/-- The word of the number 4096. -/
theorem n_f32 : Ideal.ofBits .f32 0x45800000#32 = ((4096 : ℝ) : EReal) := by
  simp [Ideal.ofBits, Ideal.ieee, -EReal.coe_mul]; norm_num

/-- Adding a word of value one for every element counts the elements. -/
theorem fold_ones {ι : Type} [DecidableEq ι] (s : Finset ι) :
    s.fold IntOp.addi 0#32 (fun _ => 1#32) = BitVec.ofNat 32 s.card := by
  induction s using Finset.induction_on with
  | empty => rfl
  | insert a s ha ih =>
    rw [Finset.fold_insert ha, ih, Finset.card_insert_of_notMem ha]
    show 1#32 + BitVec.ofNat 32 s.card = _
    rw [BitVec.add_comm, BitVec.ofNat_add]

/-- Ones of which a window is shifted out at the front and ones are shifted in at the back, times ones, are ones. -/
theorem ones_step {k l : ℕ} (v : FVec Ideal S4096 .f32) (hs : S4096.Slices ![l] ⟨1, ![k]⟩)
    (hb : S_.BroadcastsInDim ⟨1, ![l]⟩ (![] : Fin 0 → Fin 1)) (hc : Shape.Concatenates [⟨1, ![k]⟩, ⟨1, ![l]⟩] S4096 0)
    (h : ∀ i, v i = 1) (i : S4096.Idx) :
    mulf v (concatenate S4096 0 [⟨⟨1, ![k]⟩, extractStridedSlice ⟨1, ![k]⟩ ![l] v hs⟩,
      ⟨⟨1, ![l]⟩, broadcastInDim ⟨1, ![l]⟩ ![] hb (constant (F := Ideal) S_ .f32 0x3F800000#32)⟩] hc) i = 1 := by
  have hk : concatenate S4096 0 [⟨⟨1, ![k]⟩, extractStridedSlice ⟨1, ![k]⟩ ![l] v hs⟩,
      ⟨⟨1, ![l]⟩, broadcastInDim ⟨1, ![l]⟩ ![] hb (constant (F := Ideal) S_ .f32 0x3F800000#32)⟩] hc i = 1 := by
    rw [concatenate_pair_apply]
    split
    · exact h _
    · exact one_f32
  show v i * _ = _
  rw [h i, hk, one_mul]

variable (V : Valuation τ sig (Elt Ideal))

/-- Every worker has 4096 tasks. -/
theorem counts (hx : ∀ i, 0 ≤ (V (Proc.devRef .tc main_arg6) i).toInt) (i : S4096.Idx) : res_main_v4 V i = ((4096 : ℝ) : EReal) := by
  have hr : S4096x4096.Reduces [1] S4096 := by decide
  have e : Host.reduce IntOp.addi (extui 32 (cmpi .sge (V (Proc.devRef .tc main_arg6)) (broadcastInDim S4096x4096 ![] bcast_S_S4096x4096
      (constantI S_ 32 0#32))) natLt_1_32) (constantI S_ 32 0#32) reducesTo_S4096x4096_S4096_d1 h_S_ i = BitVec.ofNat 32 4096 := by
    rw [Host.reduce_eq_fold_single IntOp.addi _ _ _ hr]
    refine Eq.trans ?_ ((fold_ones (Finset.univ : Finset (Fin 4096))).trans (congrArg _ (Finset.card_fin 4096)))
    refine Finset.fold_congr fun t _ => ?_
    show BitVec.setWidth 32 (IntOp.cmpi .sge (V (Proc.devRef .tc main_arg6) _) 0#32) = 1#32
    rw [IntOp.cmpi_sge.2 (show (0#32 : BitVec 32).toInt ≤ _ from hx _)]
    rfl
  unfold res_main_v4
  show (((Host.reduce IntOp.addi _ _ _ _ i).toInt : ℝ) : EReal) = _
  rw [e]
  have : (BitVec.ofNat 32 4096).toInt = 4096 := by decide
  rw [this]; norm_num

/-- Every worker's factor is one. -/
theorem factor (hx : ∀ i, 0 ≤ (V (Proc.devRef .tc main_arg6) i).toInt) (i : S4096.Idx) : res_main_v9 V i = (1 : EReal) := by
  have h := counts V hx i
  unfold res_main_v9
  show Scalar.select (Ideal.cmp .ogt (res_main_v4 V i) (Ideal.ofBits .f32 0x00000000#32))
    (Ideal.div (Ideal.ofBits .f32 0x45800000#32) (res_main_v4 V i)) (Ideal.ofBits .f32 0x3F800000#32) = 1
  rw [h, n_f32, one_f32]
  have : Ideal.div ((4096 : ℝ) : EReal) ((4096 : ℝ) : EReal) = 1 := by
    unfold Ideal.div
    rw [if_neg (by norm_num [← EReal.coe_zero]), ← EReal.coe_inv, ← EReal.coe_mul, mul_inv_cancel₀ (by norm_num), EReal.coe_one]
  rw [this]
  unfold Scalar.select
  split <;> rfl

/-- The product of the factors from each worker on is one. -/
theorem suffix (hx : ∀ i, 0 ≤ (V (Proc.devRef .tc main_arg6) i).toInt) : ∀ i, res_main_v57 V i = (1 : EReal) := by
  unfold res_main_v57 res_main_v53 res_main_v49 res_main_v45 res_main_v41 res_main_v37 res_main_v33 res_main_v29 res_main_v25
    res_main_v21 res_main_v17 res_main_v13
  exact ones_step _ _ _ _ <| ones_step _ _ _ _ <| ones_step _ _ _ _ <| ones_step _ _ _ _ <| ones_step _ _ _ _ <| ones_step _ _ _ _ <|
    ones_step _ _ _ _ <| ones_step _ _ _ _ <| ones_step _ _ _ _ <| ones_step _ _ _ _ <| ones_step _ _ _ _ <| ones_step _ _ _ _ <| factor V hx

/-- The product of all the factors is one. -/
theorem all_factors (hx : ∀ i, 0 ≤ (V (Proc.devRef .tc main_arg6) i).toInt) (i : S_.Idx) : res_main_v59 V i = (1 : EReal) := by
  unfold res_main_v59 shapeCast extractStridedSlice
  exact suffix V hx _

end Cert.ReferenceIdeal.Factors

end
-- ==== Proof.Messages.lean ====
/- What the reference's operations compute at an element: the sums along the edges of one type, their weighted totals over the
   edge types, and the softmax of the rows. -/
module

public import proofs.«01_k».proof.Proof.Factors
public import Idealize.ShloMosaic.Lib.StackMember
public import Idealize.ShloMosaic.Lib.ValueLayout

@[expose] public section

set_option maxRecDepth 16384

noncomputable section

namespace Cert.ReferenceIdeal.Messages

open Idealize.ShloMosaic hiding ix1 ix2 ix3
open Idealize.ShloMosaic.ValueIdx Idealize.ShloMosaic.TcCoe Idealize.SL.Sem
open Cert.ReferenceIdeal Cert.ReferenceIdeal.Gen Cert.ReferenceIdeal.Value Cert.Steps
open scoped BigOperators

/-- Each matrix of a stack times one matrix, at an element. -/
theorem dot_apply {G m k n : ℕ} (w : DotDims.WF ⟨3, ![G, m, k]⟩ ⟨2, ![k, n]⟩ ⟨3, ![G, m, n]⟩ [2] [0] [0, 1] [1] [] [])
    (A : FVec Ideal ⟨3, ![G, m, k]⟩ .f32) (B : FVec Ideal ⟨2, ![k, n]⟩ .f32) (g : Fin G) (a : Fin m) (b : Fin n) :
    Host.dotGeneral (⟨[2], [0], [0, 1], [1], [], [], w⟩ : DotDims _ _ _) none A B (ix3 g a b)
      = ∑ c : Fin k, A (ix3 g a c) * B (ix2 c b) := by
  show FloatOps.dotGeneral _ none _ A B (ix3 g a b) = _
  rw [Ideal.dotGeneral_apply, ← Equiv.sum_comp (contrEquiv1 (⟨[2], [0], [0, 1], [1], [], [], w⟩ : DotDims _ _ _) k rfl rfl).symm]
  refine Finset.sum_congr rfl fun c _ => ?_
  have hc := contrEquiv1_symm_val (⟨[2], [0], [0, 1], [1], [], [], w⟩ : DotDims ⟨3, ![G, m, k]⟩ ⟨2, ![k, n]⟩ ⟨3, ![G, m, n]⟩) k rfl rfl c
  have hl : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A sum over pairs is the sum over the pairs numbered row by row. -/
theorem sum_pairs (p q : ℕ) (f : ℕ → Fin q → EReal) (hq : 0 < q) :
    ∑ e : Fin p, ∑ i : Fin q, f e.val i = ∑ r : Fin (p * q), f (r.val / q) ⟨r.val % q, Nat.mod_lt _ hq⟩ := by
  rw [← Fintype.sum_prod_type' (fun (e : Fin p) (i : Fin q) => f e.val i), ← Equiv.sum_comp finProdFinEquiv.symm]
  rfl

/-- The stack of masks: the mask of edge type `e` is one where the label is `e`. -/
theorem mask_apply (V : Valuation τ sig (Elt Ideal)) (e : Fin 16) (w t : Fin 4096) :
    res_main_v66 V (ix3 e w t) = hit (V (Proc.devRef .tc main_arg6) (ix2 w t)) e.val := by
  unfold res_main_v66
  show Scalar.select (IntOp.cmpi .eq (broadcastInDim S16x4096x4096 ![0, 1, 2] bcast_S1x4096x4096_S16x4096x4096_0_1_2
      (broadcastInDim S1x4096x4096 ![1, 2] bcast_S4096x4096_S1x4096x4096_1_2 (V (Proc.devRef .tc main_arg6))) (ix3 e w t))
    (broadcastInDim S16x4096x4096 ![0, 1, 2] bcast_S16x1x1_S16x4096x4096_0_1_2 (iotaInDim S16x1x1 32 0) (ix3 e w t)))
    (Ideal.ofBits .f32 0x3F800000#32) (Ideal.ofBits .f32 0x00000000#32) = _
  rw [broadcastInDim_apply _ _ _ (ix3 e w t) (ix3 (0 : Fin 1) w t) (fun b => match b with | ⟨0, _⟩ => rfl | ⟨1, _⟩ => rfl | ⟨2, _⟩ => rfl),
    broadcastInDim_apply _ _ _ (ix3 (0 : Fin 1) w t) (ix2 w t) (fun b => match b with | ⟨0, _⟩ => rfl | ⟨1, _⟩ => rfl),
    broadcastInDim_apply _ _ _ (ix3 e w t) (ix3 e (0 : Fin 1) (0 : Fin 1)) (fun b => match b with | ⟨0, _⟩ => rfl | ⟨1, _⟩ => rfl | ⟨2, _⟩ => rfl),
    iotaInDim_apply, Factors.one_f32, Ideal.ofBits_zero_f32]
  have hn : (BitVec.ofNat 32 e.val).toInt = (e.val : ℤ) := WordArith.toInt_ofNat_small _ (by have := e.isLt; omega)
  unfold Scalar.select hit
  refine if_congr (IntOp.cmpi_eq.trans ?_) rfl rfl
  show V (Proc.devRef .tc main_arg6) (ix2 w t) = BitVec.ofNat 32 e.val ↔ _
  rw [← hn]
  exact BitVec.toInt_inj.symm

section
variable (M : FVec Ideal S16x4096x4096 .f32) (x : Fin 4096 → Fin 4096 → BitVec 32) (hM : ∀ e w t, M (ix3 e w t) = hit (x w t) e.val)
include hM

/-- What reaches a worker: over the edge types and the task types, the weight times the sum of the task type over the worker's tasks
    on that edge type. -/
theorem to_worker (U : FVec Ideal S4096x16 .f32) (W : FVec Ideal S16x16x32 .f32) (w : Fin 4096) (a : Fin 32) :
    Host.reduceAdd (Host.dotGeneral dot_S16x4096x16_S16x16x32_S16x4096x32_2_1_1_2_0_0 none
      (Host.dotGeneral dot_S16x4096x4096_S4096x16_S16x4096x16_2_0_01_1_n_n none M U) W) (constant S_ .f32 0x00000000#32)
      reducesTo_S16x4096x32_S4096x32_d0 h_S_ (ix2 w a)
    = ∑ r : Fin 256, W (ix3 (⟨r.val / 16, by omega⟩ : Fin 16) (⟨r.val % 16, Nat.mod_lt _ (by decide)⟩ : Fin 16) a) *
        pick (fun t => x w t) (fun t => U (ix2 t (⟨r.val % 16, Nat.mod_lt _ (by decide)⟩ : Fin 16))) (r.val / 16) := by
  have hr : S16x4096x32.Reduces [0] S4096x32 := by decide
  show Ideal.hostReduceAdd reducesTo_S16x4096x32_S4096x32_d0 _ (Ideal.ofBits .f32 0x00000000#32) (ix2 w a) = _
  rw [Ideal.hostReduceAdd_single _ hr, Ideal.ofBits_zero_f32, zero_add]
  refine Eq.trans (Finset.sum_congr rfl fun e _ => ?_) (sum_pairs 16 16 (fun e i =>
    (if h : e < 16 then W (ix3 (⟨e, h⟩ : Fin 16) i a) else 0) * pick (fun t => x w t) (fun t => U (ix2 t i)) e) (by decide) |>.trans
    (Finset.sum_congr rfl fun r _ => ?_))
  · have he : e.val < 16 := e.isLt
    rw [show hr.lift (ix2 w a) e = ix3 (⟨e.val, he⟩ : Fin 16) w a from
      funext fun b => match b with | ⟨0, _⟩ => rfl | ⟨1, _⟩ => rfl | ⟨2, _⟩ => rfl]
    refine (StackMember.dotGeneral_stack_apply _ none _ W (⟨e.val, he⟩ : Fin 16) w a).trans (Finset.sum_congr rfl fun i _ => ?_)
    rw [dif_pos he, mul_comm]
    refine congrArg _ ((dot_apply _ M U _ w i).trans (Finset.sum_congr rfl fun t _ => ?_))
    rw [hM, mul_comm]
  · show (if h : r.val / 16 < 16 then _ else _) * _ = _
    rw [dif_pos (by have := r.isLt; omega)]

/-- What reaches a task: over the edge types and the abilities, the weight times the sum of the ability over the task's workers on
    that edge type. -/
theorem to_task (A : FVec Ideal S4096x32 .f32) (W : FVec Ideal S16x32x16 .f32) (t : Fin 4096) (k : Fin 16) :
    Host.reduceAdd (Host.dotGeneral dot_S16x4096x32_S16x32x16_S16x4096x16_2_1_1_2_0_0 none
      (Host.dotGeneral dot_S16x4096x4096_S4096x32_S16x4096x32_2_0_01_1_n_n none
        (transpose S16x4096x4096 [0, 2, 1] M transposes_S16x4096x4096_S16x4096x4096_0_2_1) A) W) (constant S_ .f32 0x00000000#32)
      reducesTo_S16x4096x16_S4096x16_d0 h_S_ (ix2 t k)
    = ∑ r : Fin 512, W (ix3 (⟨r.val / 32, by omega⟩ : Fin 16) (⟨r.val % 32, Nat.mod_lt _ (by decide)⟩ : Fin 32) k) *
        pick (fun w => x w t) (fun w => A (ix2 w (⟨r.val % 32, Nat.mod_lt _ (by decide)⟩ : Fin 32))) (r.val / 32) := by
  have hr : S16x4096x16.Reduces [0] S4096x16 := by decide
  show Ideal.hostReduceAdd reducesTo_S16x4096x16_S4096x16_d0 _ (Ideal.ofBits .f32 0x00000000#32) (ix2 t k) = _
  rw [Ideal.hostReduceAdd_single _ hr, Ideal.ofBits_zero_f32, zero_add]
  refine Eq.trans (Finset.sum_congr rfl fun e _ => ?_) (sum_pairs 16 32 (fun e i =>
    (if h : e < 16 then W (ix3 (⟨e, h⟩ : Fin 16) i k) else 0) * pick (fun w => x w t) (fun w => A (ix2 w i)) e) (by decide) |>.trans
    (Finset.sum_congr rfl fun r _ => ?_))
  · have he : e.val < 16 := e.isLt
    rw [show hr.lift (ix2 t k) e = ix3 (⟨e.val, he⟩ : Fin 16) t k from
      funext fun b => match b with | ⟨0, _⟩ => rfl | ⟨1, _⟩ => rfl | ⟨2, _⟩ => rfl]
    refine (StackMember.dotGeneral_stack_apply _ none _ W (⟨e.val, he⟩ : Fin 16) t k).trans (Finset.sum_congr rfl fun i _ => ?_)
    rw [dif_pos he, mul_comm]
    refine congrArg _ ((dot_apply _ _ A _ t i).trans (Finset.sum_congr rfl fun w _ => ?_))
    rw [transpose_ix3_021_apply, hM, mul_comm]
  · show (if h : r.val / 32 < 16 then _ else _) * _ = _
    rw [dif_pos (by have := r.isLt; omega)]

end

/-- A value per row, spread along the row. -/
theorem spread_apply {n : ℕ} (v : S4096.Idx → EReal) (h : S4096x1.BroadcastsInDim ⟨2, ![4096, n]⟩ ![0, 1])
    (h' : S4096.BroadcastsInDim S4096x1 ![0]) (t : Fin 4096) (k : Fin n) :
    broadcastInDim ⟨2, ![4096, n]⟩ ![0, 1] h (broadcastInDim S4096x1 ![0] h' v) (ix2 t k) = v (ix1 t) :=
  (broadcastInDim_apply _ _ _ (ix2 t k) (ix2 t (0 : Fin 1)) (fun b => match b with | ⟨0, _⟩ => rfl | ⟨1, _⟩ => rfl)).trans
    (broadcastInDim_apply _ _ _ (ix2 t (0 : Fin 1)) (ix1 t) (fun b => match b with | ⟨0, _⟩ => rfl))

/-- The exponentials of the rows, each less its greatest value. -/
def shifted (z : FVec Ideal S4096x16 .f32) : FVec Ideal S4096x16 .f32 :=
  Host.exp (subf z (broadcastInDim S4096x16 ![0, 1] bcast_S4096x1_S4096x16_0_1 (broadcastInDim S4096x1 ![0] bcast_S4096_S4096x1_0
    (maximumf (broadcastInDim S4096 ![] bcast_S_S4096 (constant S_ .f32 0xFF800000#32))
      (Host.reduce FloatOps.maximumf z (constant S_ .f32 0xFF800000#32) reducesTo_S4096x16_S4096_d1 h_S_)))))

/-- The softmax of the rows. -/
def rows_softmax (z : FVec Ideal S4096x16 .f32) : FVec Ideal S4096x16 .f32 :=
  Host.divf (shifted z) (broadcastInDim S4096x16 ![0, 1] bcast_S4096x1_S4096x16_0_1 (broadcastInDim S4096x1 ![0] bcast_S4096_S4096x1_0
    (Host.reduceAdd (shifted z) (constant S_ .f32 0x00000000#32) reducesTo_S4096x16_S4096_d1 h_S_)))

/-- The word of the least value. -/
theorem bot_f32 : Ideal.ofBits .f32 0xFF800000#32 = ⊥ := by simp [Ideal.ofBits, Ideal.ieee]

/-- The exponential at an element. -/
theorem shifted_apply (z : FVec Ideal S4096x16 .f32) (t : Fin 4096) (k : Fin 16) :
    shifted z (ix2 t k) = Ideal.exp (z (ix2 t k) - top fun k' => z (ix2 t k')) := by
  have hr : S4096x16.Reduces [1] S4096 := by decide
  have hm : maximumf (broadcastInDim S4096 ![] bcast_S_S4096 (constant S_ .f32 0xFF800000#32))
      (Host.reduce FloatOps.maximumf z (constant S_ .f32 0xFF800000#32) reducesTo_S4096x16_S4096_d1 h_S_) (ix1 t)
      = top fun k' => z (ix2 t k') := by
    show max (Ideal.ofBits .f32 0xFF800000#32) (Host.reduce FloatOps.maximumf z _ reducesTo_S4096x16_S4096_d1 h_S_ (ix1 t)) = _
    rw [bot_f32, bot_sup_eq, Host.reduce_eq_fold_single FloatOps.maximumf z _ _ hr]
    show (Finset.univ : Finset (Fin 16)).fold max (Ideal.ofBits .f32 0xFF800000#32) _ = _
    rw [bot_f32]
    refine Finset.fold_congr fun k' _ => congrArg z ?_
    exact funext fun b => match b with | ⟨0, _⟩ => rfl | ⟨1, _⟩ => rfl
  unfold shifted
  exact congrArg (fun y => Ideal.exp (z (ix2 t k) - y)) ((spread_apply _ _ _ t k).trans hm)

/-- The softmax at an element. -/
theorem rows_softmax_apply (z : FVec Ideal S4096x16 .f32) (t : Fin 4096) (k : Fin 16) :
    rows_softmax z (ix2 t k) = softmax (fun k' => z (ix2 t k')) k := by
  have hr : S4096x16.Reduces [1] S4096 := by decide
  have hs : Host.reduceAdd (shifted z) (constant S_ .f32 0x00000000#32) reducesTo_S4096x16_S4096_d1 h_S_ (ix1 t)
      = ∑ k' : Fin 16, Ideal.exp (z (ix2 t k') - top fun k' => z (ix2 t k')) := by
    show Ideal.hostReduceAdd reducesTo_S4096x16_S4096_d1 _ (Ideal.ofBits .f32 0x00000000#32) (ix1 t) = _
    rw [Ideal.hostReduceAdd_single _ hr, Ideal.ofBits_zero_f32, zero_add]
    refine Finset.sum_congr rfl fun k' _ => Eq.trans (congrArg (shifted z) ?_) (shifted_apply z t k')
    exact funext fun b => match b with | ⟨0, _⟩ => rfl | ⟨1, _⟩ => rfl
  unfold rows_softmax softmax
  exact congrArg₂ Ideal.div (shifted_apply z t k) ((spread_apply _ _ _ t k).trans hs)

end Cert.ReferenceIdeal.Messages

end
-- ==== Proof.Reference.lean ====
/- What the reference computes: its two updates are the graph's, and so is its result. -/
module

public import proofs.«01_k».proof.Proof.Messages

@[expose] public section

set_option maxRecDepth 16384

noncomputable section

namespace Cert.ReferenceIdeal.Updates

open Idealize.ShloMosaic hiding ix1 ix2 ix3
open Idealize.ShloMosaic.ValueIdx Idealize.ShloMosaic.TcCoe Idealize.SL.Sem
open Cert.ReferenceIdeal Cert.ReferenceIdeal.Gen Cert.ReferenceIdeal.Value Cert.ReferenceIdeal.Messages Cert.Steps

/-- An array beside another, at a column of the first. -/
theorem beside_left {n k l m : ℕ} (x : (⟨2, ![n, k]⟩ : Shape).Idx → EReal) (y : (⟨2, ![n, l]⟩ : Shape).Idx → EReal)
    (h : Shape.Concatenates [⟨2, ![n, k]⟩, ⟨2, ![n, l]⟩] ⟨2, ![n, m]⟩ 1) (i : Fin n) (c : Fin m) (q : Fin k) (hq : q.val = c.val) :
    concatenate ⟨2, ![n, m]⟩ 1 [⟨⟨2, ![n, k]⟩, x⟩, ⟨⟨2, ![n, l]⟩, y⟩] h (ix2 i c) = x (ix2 i q) :=
  concatenate_pair_apply_left 1 x y h (ix2 i c) rfl (ix2 i q) fun b => match b with | ⟨0, _⟩ => rfl | ⟨1, _⟩ => hq

/-- An array beside another, at a column of the second. -/
theorem beside_right {n k l m : ℕ} (x : (⟨2, ![n, k]⟩ : Shape).Idx → EReal) (y : (⟨2, ![n, l]⟩ : Shape).Idx → EReal)
    (h : Shape.Concatenates [⟨2, ![n, k]⟩, ⟨2, ![n, l]⟩] ⟨2, ![n, m]⟩ 1) (i : Fin n) (c : Fin m) (q : Fin l) (hq : q.val + k = c.val) :
    concatenate ⟨2, ![n, m]⟩ 1 [⟨⟨2, ![n, k]⟩, x⟩, ⟨⟨2, ![n, l]⟩, y⟩] h (ix2 i c) = y (ix2 i q) :=
  concatenate_pair_apply_right 1 x y h (ix2 i c) rfl rfl (ix2 i q)
    (fun b => match b with | ⟨0, _⟩ => fun _ => rfl | ⟨1, _⟩ => fun hb => absurd rfl hb) hq

variable (V : Valuation τ sig (Elt Ideal))

/-- The reference's update of the abilities `A` from the types `U`. -/
def abilities (A : FVec Ideal S4096x32 .f32) (U : FVec Ideal S4096x16 .f32) : FVec Ideal S4096x32 .f32 :=
  addf (mulf A (broadcastInDim S4096x32 ![] bcast_S_S4096x32 (res_main_v59 V)))
    (mulf (Host.reduceAdd (Host.dotGeneral (F := Ideal) (φ₁ := .f32) (φ₂ := .f32) dot_S16x4096x16_S16x16x32_S16x4096x32_2_1_1_2_0_0 none
        (Host.dotGeneral (F := Ideal) (φ₁ := .f32) (φ₂ := .f32) dot_S16x4096x4096_S4096x16_S16x4096x16_2_0_01_1_n_n none (res_main_v66 V) U) (V (Proc.devRef .tc main_arg5)))
        (constant S_ .f32 0x00000000#32) reducesTo_S16x4096x32_S4096x32_d0 h_S_)
      (broadcastInDim S4096x32 ![0, 1] bcast_S4096x1_S4096x32_0_1 (broadcastInDim S4096x1 ![0] bcast_S4096_S4096x1_0 (res_main_v57 V))))

/-- The reference's update of the types `U` from the abilities `A`. -/
def types (A : FVec Ideal S4096x32 .f32) (U : FVec Ideal S4096x16 .f32) : FVec Ideal S4096x16 .f32 :=
  rows_softmax (addf U (Host.reduceAdd (Host.dotGeneral (F := Ideal) (φ₁ := .f32) (φ₂ := .f32) dot_S16x4096x32_S16x32x16_S16x4096x16_2_1_1_2_0_0 none
    (Host.dotGeneral (F := Ideal) (φ₁ := .f32) (φ₂ := .f32) dot_S16x4096x4096_S4096x32_S16x4096x32_2_0_01_1_n_n none
      (transpose S16x4096x4096 [0, 2, 1] (res_main_v66 V) transposes_S16x4096x4096_S16x4096x4096_0_2_1) A) (V (Proc.devRef .tc main_arg4)))
    (constant S_ .f32 0x00000000#32) reducesTo_S16x4096x16_S4096x16_d0 h_S_))

/-- The first update's abilities. -/
theorem first_abilities : res_main_v75 V = abilities V (V (Proc.devRef .tc main_arg0)) (V (Proc.devRef .tc main_arg1)) := by
  unfold res_main_v75 abilities; rfl

/-- The first update's types. -/
theorem first_types : res_main_v91 V = types V (res_main_v75 V) (V (Proc.devRef .tc main_arg1)) := by
  unfold res_main_v91 res_main_v87 res_main_v80 types rows_softmax shifted; rfl

/-- The second update's abilities. -/
theorem second_abilities : res_main_v100 V = abilities V (res_main_v75 V) (res_main_v91 V) := by
  unfold res_main_v100 abilities; rfl

/-- The second update's types. -/
theorem second_types : Host.divf (res_main_v112 V) (broadcastInDim S4096x16 ![0, 1] bcast_S4096x1_S4096x16_0_1
      (broadcastInDim S4096x1 ![0] bcast_S4096_S4096x1_0 (Host.reduceAdd (res_main_v112 V) (constant S_ .f32 0x00000000#32)
        reducesTo_S4096x16_S4096_d1 h_S_))) = types V (res_main_v100 V) (res_main_v91 V) := by
  unfold res_main_v112 res_main_v105 types rows_softmax shifted; rfl

/-- The graph of the arrays the reference is given. -/
def graph : Graph := graphOf (V (Proc.devRef .tc main_arg0)) (V (Proc.devRef .tc main_arg1)) (V (Proc.devRef .tc main_arg4))
  (V (Proc.devRef .tc main_arg5)) (V (Proc.devRef .tc main_arg6))

variable (hx : ∀ i, 0 ≤ (V (Proc.devRef .tc main_arg6) i).toInt)
include hx

/-- The update of the abilities is the graph's. -/
theorem abilities_step {A : FVec Ideal S4096x32 .f32} {U : FVec Ideal S4096x16 .f32} {n : ℕ}
    (hA : ∀ a w, A (ix2 w a) = (graph V).ability n a w) (hU : ∀ k t, U (ix2 t k) = (graph V).type n k t) (a : Fin 32) (w : Fin 4096) :
    abilities V A U (ix2 w a) = (graph V).ability (n + 1) a w := by
  have h59 : broadcastInDim S4096x32 ![] bcast_S_S4096x32 (res_main_v59 V) (ix2 w a) = (1 : EReal) := Factors.all_factors V hx _
  have h57 : broadcastInDim S4096x32 ![0, 1] bcast_S4096x1_S4096x32_0_1 (broadcastInDim S4096x1 ![0] bcast_S4096_S4096x1_0
      (res_main_v57 V)) (ix2 w a) = (1 : EReal) := (spread_apply _ _ _ w a).trans (Factors.suffix V hx _)
  have hm := to_worker (res_main_v66 V) _ (mask_apply V) U (V (Proc.devRef .tc main_arg5)) w a
  unfold abilities
  refine (congrArg₂ (· + ·) (congrArg₂ (· * ·) (hA a w) h59) (congrArg₂ (· * ·) hm h57)).trans ?_
  rw [mul_one, mul_one, Graph.ability_succ]
  unfold newAbility
  refine congrArg _ (Finset.sum_congr rfl fun r _ => congrArg _ ?_)
  exact congrArg (fun v => pick _ v _) (funext fun t => hU _ t)

omit hx in
/-- The update of the types is the graph's. -/
theorem types_step {A : FVec Ideal S4096x32 .f32} {U : FVec Ideal S4096x16 .f32} {n : ℕ}
    (hA : ∀ a w, A (ix2 w a) = (graph V).ability (n + 1) a w) (hU : ∀ k t, U (ix2 t k) = (graph V).type n k t) (k : Fin 16) (t : Fin 4096) :
    types V A U (ix2 t k) = (graph V).type (n + 1) k t := by
  unfold types
  rw [rows_softmax_apply, Graph.type_succ]
  unfold newType
  refine congrArg (fun z => softmax z k) (funext fun k' => ?_)
  unfold logit
  refine (congrArg₂ (· + ·) (hU k' t) (to_task (res_main_v66 V) _ (mask_apply V) A (V (Proc.devRef .tc main_arg4)) t k')).trans ?_
  refine congrArg _ (Finset.sum_congr rfl fun r _ => congrArg _ ?_)
  exact congrArg (fun v => pick _ v _) (funext fun w => hA _ w)

/-- The reference's result is the graph's. -/
theorem reference_result : concatenate S8192x48 0 [⟨S4096x48, (concatenate S4096x48 1 [⟨S4096x32, (res_main_v100 V)⟩,
      ⟨S4096x16, (V (Proc.devRef .tc main_arg2))⟩] concatenates_S4096x32_S4096x16_S4096x48_d1)⟩,
    ⟨S4096x48, (concatenate S4096x48 1 [⟨S4096x16, (Host.divf (res_main_v112 V) (broadcastInDim S4096x16 ![0, 1]
      bcast_S4096x1_S4096x16_0_1 (broadcastInDim S4096x1 ![0] bcast_S4096_S4096x1_0 (Host.reduceAdd (res_main_v112 V)
        (constant S_ .f32 0x00000000#32) reducesTo_S4096x16_S4096_d1 h_S_))))⟩,
      ⟨S4096x32, (V (Proc.devRef .tc main_arg3))⟩] concatenates_S4096x16_S4096x32_S4096x48_d1)⟩] concatenates_S4096x48_S4096x48_S8192x48_d0
    = (graph V).result (V (Proc.devRef .tc main_arg2)) (V (Proc.devRef .tc main_arg3)) := by
  have a1 : ∀ a w, res_main_v75 V (ix2 w a) = (graph V).ability 1 a w := by
    rw [first_abilities]; exact abilities_step V hx (n := 0) (fun _ _ => rfl) fun _ _ => rfl
  have u1 : ∀ k t, res_main_v91 V (ix2 t k) = (graph V).type 1 k t := by
    rw [first_types]; exact types_step V (n := 0) a1 fun _ _ => rfl
  have a2 : ∀ a w, res_main_v100 V (ix2 w a) = (graph V).ability 2 a w := by
    rw [second_abilities]; exact abilities_step V hx a1 u1
  have u2 := types_step V a2 u1
  rw [second_types]
  funext j
  have hj0 : (j 0).val < 8192 := (j 0).isLt
  have hj1 : (j 1).val < 48 := (j 1).isLt
  unfold Graph.result
  by_cases h : (j 0).val < 4096
  · rw [dif_pos h]
    refine (concatenate_pair_apply_left (s₁ := S4096x48) 0 _ _ _ j rfl (ix2 (⟨(j 0).val, h⟩ : Fin 4096) (⟨(j 1).val, hj1⟩ : Fin 48))
      fun b => match b with | ⟨0, _⟩ => rfl | ⟨1, _⟩ => rfl).trans ?_
    by_cases h' : (j 1).val < 32
    · rw [dif_pos h']
      exact (beside_left _ _ _ _ ⟨(j 1).val, hj1⟩ ⟨(j 1).val, h'⟩ rfl).trans (a2 _ _)
    · rw [dif_neg h']
      exact beside_right _ _ _ _ _ ⟨(j 1).val - 32, by omega⟩ (by show (j 1).val - 32 + 32 = (j 1).val; omega)
  · rw [dif_neg h]
    refine (concatenate_pair_apply_right (s₁ := S4096x48) (s₂ := S4096x48) 0 _ _ _ j rfl rfl
      (ix2 (⟨(j 0).val - 4096, by omega⟩ : Fin 4096) (⟨(j 1).val, hj1⟩ : Fin 48))
      (fun b => match b with | ⟨0, _⟩ => fun hb => absurd rfl hb | ⟨1, _⟩ => fun _ => rfl)
      (by show (j 0).val - 4096 + 4096 = (j 0).val; omega)).trans ?_
    by_cases h' : (j 1).val < 16
    · rw [dif_pos h']
      exact (beside_left _ _ _ _ ⟨(j 1).val, hj1⟩ ⟨(j 1).val, h'⟩ rfl).trans (u2 _ _)
    · rw [dif_neg h']
      exact beside_right _ _ _ _ _ ⟨(j 1).val - 16, by omega⟩ (by show (j 1).val - 16 + 16 = (j 1).val; omega)

end Cert.ReferenceIdeal.Updates

end
-- ==== Proof.Precondition.lean ====
/- What the precondition says: every label is an edge type and the abilities, the task types and the two arrays
   of weights are finite. The paddings are free. -/
module

public import proofs.«01_k».proof.Pre_meets
public import proofs.«01_k».proof.Proof.Graph
public import Idealize.ShloMosaic.Lib.ReduceAll

@[expose] public section

set_option maxRecDepth 16384

noncomputable section

namespace Cert.Pre_meets

open Idealize.ShloMosaic Cert.Steps

/-- The shape relations of the precondition's operations. -/
theorem facts : Facts where
  bcast_S_S4096x4096 := by decide
  reducesTo_S4096x4096_S_d0_1 := by decide
  h_S_ := by decide
  bcast_S_S4096x32 := by decide
  reducesTo_S4096x32_S_d0_1 := by decide
  bcast_S_S4096x16 := by decide
  reducesTo_S4096x16_S_d0_1 := by decide
  bcast_S_S16x32x16 := by decide
  reducesTo_S16x32x16_S_d0_1_2 := by decide
  bcast_S_S16x16x32 := by decide
  reducesTo_S16x16x32_S_d0_1_2 := by decide

instance : Subsingleton S_.Idx := ⟨fun _ _ => funext fun a => a.elim0⟩

/-- An `and` of two bits that is one has both bits one. -/
theorem both {x y : BitVec 1} (h : IntOp.andi x y = 1#1) : x = 1#1 ∧ y = 1#1 := by
  revert h
  show x &&& y = 1#1 → _
  revert x y
  decide

/-- A value whose magnitude is below infinity is a real number. -/
theorem finite_of_lt {x : EReal} (h : Ideal.cmp .olt (FloatOps.hostAbsf (F := Ideal) (φ := .f32) x) (Ideal.ofBits .f32 0x7F800000#32) = 1#1) :
    Finite x := by
  have ht : Ideal.ofBits .f32 0x7F800000#32 = ⊤ := by simp [Ideal.ofBits, Ideal.ieee]
  rw [ht] at h
  refine finite_of_ne ?_ ?_
  · rintro rfl; exact absurd h (by simp [Ideal.cmp, FloatOps.hostAbsf])
  · rintro rfl; exact absurd h (by simp [Ideal.cmp, FloatOps.hostAbsf])

/-- The precondition makes the graph of the arrays one. -/
theorem ok [Facts] {fa : FVec Ideal S4096x32 .f32} {ft pa : FVec Ideal S4096x16 .f32} {pt : FVec Ideal S4096x32 .f32}
    {wt : FVec Ideal S16x32x16 .f32} {wa : FVec Ideal S16x16x32 .f32} {x : IVec S4096x4096 32}
    (h : fn (F := Ideal) fa ft pa pt wt wa x = fun _ => 1#1) : (graphOf fa ft wt wa x).Ok := by
  obtain ⟨h, hwa⟩ := both (congrFun h fun a => a.elim0)
  obtain ⟨h, hwt⟩ := both h
  obtain ⟨h, hft⟩ := both h
  obtain ⟨hx, hfa⟩ := both h
  refine graphOf_ok (fun i => ?_) (fun i => ?_) (fun i => ?_) (fun i => ?_) (fun i => ?_)
  · obtain ⟨h0, h1⟩ := both (Host.reduce_andi_all _ _ _ _ _ hx i)
    exact ⟨IntOp.cmpi_sge.1 h0, IntOp.cmpi_slt.1 h1⟩
  · exact finite_of_lt (Host.reduce_andi_all _ _ _ _ _ hfa i)
  · exact finite_of_lt (Host.reduce_andi_all _ _ _ _ _ hft i)
  · exact finite_of_lt (Host.reduce_andi_all _ _ _ _ _ hwt i)
  · exact finite_of_lt (Host.reduce_andi_all _ _ _ _ _ hwa i)

end Cert.Pre_meets

end
-- ==== Proof.lean ====
/- The claims of this kernel, assembled: the kernel's result and the reference's are both the graph's abilities and task types after
   two updates (`Cert.Steps.Graph.result`), each beside its padding. -/
module

public import proofs.«01_k».proof.Defs
public import proofs.«01_k».proof.Proof.Gen.Kernel.Frame
public import proofs.«01_k».proof.Proof.Result
public import proofs.«01_k».proof.Proof.Reference
public import proofs.«01_k».proof.Proof.Precondition
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem

/-- The reference runs from any memory, keeps its arguments and ends quiescent. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments that meet the precondition the kernel and the reference end with the same result. -/
theorem algebraic_KernelIdeal_ReferenceIdeal :
    algebraic_KernelIdeal_ReferenceIdeal_pre_meets (hPre_meets := Cert.Pre_meets.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  have hok : (Cert.KernelIdeal.Carried.graph m c).Ok := @Cert.Pre_meets.ok Cert.Pre_meets.facts _ _ _ _ _ _ _ (hpre c)
  obtain ⟨h0, h1, h2, h3, h4, h5, h6⟩ := hagree c
  have hx : ∀ i, 0 ≤ (launchContents m' c (Proc.devRef .tc Cert.ReferenceIdeal.main_arg6) i).toInt := fun i => by
    have e : launchContents m' c (Proc.devRef .tc Cert.ReferenceIdeal.main_arg6) = m ((c.tc : Thread Cert.KernelIdeal.nD Cert.KernelIdeal.τ).loc Cert.KernelIdeal.main_arg6) := h6
    rw [e]
    rw [ValueIdx.eq_ix2 i]
    exact (hok.label _ _).1
  rw [(h c).1, Cert.ReferenceIdeal.Updates.reference_result _ hx, Cert.KernelIdeal.Result.kernel_result m c hok]
  have hg : Cert.ReferenceIdeal.Updates.graph (launchContents m' c) = Cert.KernelIdeal.Carried.graph m c := by
    unfold Cert.ReferenceIdeal.Updates.graph Cert.KernelIdeal.Carried.graph
    exact congr (congr (congr (congr (congrArg Cert.Steps.graphOf h0) h1) h4) h5) h6
  rw [hg]
  exact congr (congrArg _ h2) h3

/-- All the claims: the frames, the ideal program being the kernel's, and the equality with the reference. -/
theorem claim : Cert.Claim := ⟨Cert.Kernel.Gen.facts, Cert.KernelIdeal.Gen.facts, Cert.ReferenceIdeal.Gen.facts, Cert.Pre_meets.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  algebraic_KernelIdeal_ReferenceIdeal⟩

end Cert.Proof

end
